-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S18 : Shape := ⟨1, ![18]⟩
abbrev S7 : Shape := ⟨1, ![7]⟩
abbrev S_ : Shape := ⟨0, ![]⟩
abbrev S1 : Shape := ⟨1, ![1]⟩
abbrev S32x512 : Shape := ⟨2, ![32, 512]⟩
abbrev S64x512 : Shape := ⟨2, ![64, 512]⟩
abbrev S128x512 : Shape := ⟨2, ![128, 512]⟩
abbrev S160x512 : Shape := ⟨2, ![160, 512]⟩
abbrev S272x512 : Shape := ⟨2, ![272, 512]⟩
abbrev S512x512 : Shape := ⟨2, ![512, 512]⟩
abbrev S120x512 : Shape := ⟨2, ![120, 512]⟩

abbrev nBuf : Space → Nat
  | .hbm => 2
  | .vmem => 1
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | _, _ => ⟨S2048x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_19 : BitVec 32 := 1#32
  let v32 : BitVec 32 := Scalar.muli v9 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v42 : BitVec 32 := Scalar.muli v11 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v44 : BitVec 32 := Scalar.muli v8 c1_i32_29
  let v45 : BitVec 32 := Scalar.addi v43 v44
  v45.toNat
def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v46 : BitVec 32 := Scalar.muli v13 c512_i32
  let c0_i32_30 : BitVec 32 := 0#32
  let v47 : BitVec 32 := Scalar.addi v46 c0_i32_30
  let c0_i32_46 : BitVec 32 := 0#32
  ![v47.toNat, 0]
def k0_dev4 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v62 : BitVec 32 := Scalar.muli v2 c4_i32_42
  let v63 : BitVec 32 := Scalar.addi c0_i32_43 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v64 : BitVec 32 := Scalar.muli v5 c2_i32_44
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_45 : BitVec 32 := 1#32
  let v66 : BitVec 32 := Scalar.muli v9 c1_i32_45
  let v67 : BitVec 32 := Scalar.addi v65 v66
  v67.toNat
def k0_off2 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_31 : BitVec 32 := 512#32
  let v48 : BitVec 32 := Scalar.muli v13 c512_i32_31
  let c32_i32 : BitVec 32 := 32#32
  let v49 : BitVec 32 := Scalar.addi v48 c32_i32
  let c0_i32_54 : BitVec 32 := 0#32
  ![v49.toNat, 0]
def k0_dev5 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v74 : BitVec 32 := Scalar.muli v2 c4_i32_50
  let v75 : BitVec 32 := Scalar.addi c0_i32_51 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v76 : BitVec 32 := Scalar.muli v5 c2_i32_52
  let v77 : BitVec 32 := Scalar.addi v75 v76
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v78 : BitVec 32 := Scalar.muli v9 c1_i32_53
  let v79 : BitVec 32 := Scalar.addi v77 v78
  v79.toNat
def k0_off3 (d0 : Dev nD) (c96_i32 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_32 : BitVec 32 := 512#32
  let v50 : BitVec 32 := Scalar.muli v13 c512_i32_32
  let v51 : BitVec 32 := Scalar.addi v50 c96_i32
  let c0_i32_62 : BitVec 32 := 0#32
  ![v51.toNat, 0]
def k0_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v86 : BitVec 32 := Scalar.muli v2 c4_i32_58
  let v87 : BitVec 32 := Scalar.addi c0_i32_59 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v88 : BitVec 32 := Scalar.muli v5 c2_i32_60
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_61 : BitVec 32 := 1#32
  let v90 : BitVec 32 := Scalar.muli v9 c1_i32_61
  let v91 : BitVec 32 := Scalar.addi v89 v90
  v91.toNat
def k0_off4 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_33 : BitVec 32 := 512#32
  let v52 : BitVec 32 := Scalar.muli v13 c512_i32_33
  let c224_i32 : BitVec 32 := 224#32
  let v53 : BitVec 32 := Scalar.addi v52 c224_i32
  let c0_i32_70 : BitVec 32 := 0#32
  ![v53.toNat, 0]
def k0_dev7 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v98 : BitVec 32 := Scalar.muli v2 c4_i32_66
  let v99 : BitVec 32 := Scalar.addi c0_i32_67 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v100 : BitVec 32 := Scalar.muli v5 c2_i32_68
  let v101 : BitVec 32 := Scalar.addi v99 v100
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_69 : BitVec 32 := 1#32
  let v102 : BitVec 32 := Scalar.muli v9 c1_i32_69
  let v103 : BitVec 32 := Scalar.addi v101 v102
  v103.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v110 : BitVec 32 := Scalar.muli v2 c4_i32_74
  let v111 : BitVec 32 := Scalar.addi c0_i32_75 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v112 : BitVec 32 := Scalar.muli v5 c2_i32_76
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_77 : BitVec 32 := 1#32
  let v114 : BitVec 32 := Scalar.muli v9 c1_i32_77
  let v115 : BitVec 32 := Scalar.addi v113 v114
  v115.toNat
def k0_off5 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_37 : BitVec 32 := 512#32
  let v59 : BitVec 32 := Scalar.muli v17 c512_i32_37
  let c120_i32_38 : BitVec 32 := 120#32
  let v60 : BitVec 32 := Scalar.addi v59 c120_i32_38
  let c120_i32_39 : BitVec 32 := 120#32
  let v61 : BitVec 32 := Scalar.addi v60 c120_i32_39
  let c0_i32_85 : BitVec 32 := 0#32
  ![v61.toNat, 0]
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v122 : BitVec 32 := Scalar.muli v2 c4_i32_81
  let v123 : BitVec 32 := Scalar.addi c0_i32_82 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v124 : BitVec 32 := Scalar.muli v5 c2_i32_83
  let v125 : BitVec 32 := Scalar.addi v123 v124
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v126 : BitVec 32 := Scalar.muli v9 c1_i32_84
  let v127 : BitVec 32 := Scalar.addi v125 v126
  v127.toNat
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v24 : BitVec 32 := Scalar.muli v8 c2048_i32
  let c0_i32_88 : BitVec 32 := 0#32
  ![v24.toNat, 0]
def k0_dev10 (d0 : Dev nD) : Nat :=
  let c0_i32_101 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_100 : BitVec 32 := 4#32
  let v149 : BitVec 32 := Scalar.muli v10 c4_i32_100
  let v150 : BitVec 32 := Scalar.addi c0_i32_101 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v151 : BitVec 32 := Scalar.muli v5 c2_i32_102
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v153 : BitVec 32 := Scalar.muli v8 c1_i32_103
  let v154 : BitVec 32 := Scalar.addi v152 v153
  v154.toNat
def k0_dev11 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v161 : BitVec 32 := Scalar.muli v2 c4_i32_107
  let v162 : BitVec 32 := Scalar.addi c0_i32_108 v161
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_109 : BitVec 32 := 2#32
  let v163 : BitVec 32 := Scalar.muli v11 c2_i32_109
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v165 : BitVec 32 := Scalar.muli v8 c1_i32_110
  let v166 : BitVec 32 := Scalar.addi v164 v165
  v166.toNat
def k0_dev12 (d0 : Dev nD) : Nat :=
  let c0_i32_125 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_124 : BitVec 32 := 4#32
  let v185 : BitVec 32 := Scalar.muli v10 c4_i32_124
  let v186 : BitVec 32 := Scalar.addi c0_i32_125 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v187 : BitVec 32 := Scalar.muli v5 c2_i32_126
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v189 : BitVec 32 := Scalar.muli v8 c1_i32_127
  let v190 : BitVec 32 := Scalar.addi v188 v189
  v190.toNat
def k0_dev13 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v197 : BitVec 32 := Scalar.muli v2 c4_i32_131
  let v198 : BitVec 32 := Scalar.addi c0_i32_132 v197
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_133 : BitVec 32 := 2#32
  let v199 : BitVec 32 := Scalar.muli v11 c2_i32_133
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v201 : BitVec 32 := Scalar.muli v8 c1_i32_134
  let v202 : BitVec 32 := Scalar.addi v200 v201
  v202.toNat
def k0_dev14 (d0 : Dev nD) : Nat :=
  let c0_i32_149 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_148 : BitVec 32 := 4#32
  let v221 : BitVec 32 := Scalar.muli v10 c4_i32_148
  let v222 : BitVec 32 := Scalar.addi c0_i32_149 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v223 : BitVec 32 := Scalar.muli v5 c2_i32_150
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v225 : BitVec 32 := Scalar.muli v8 c1_i32_151
  let v226 : BitVec 32 := Scalar.addi v224 v225
  v226.toNat
def k0_dev15 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v233 : BitVec 32 := Scalar.muli v2 c4_i32_155
  let v234 : BitVec 32 := Scalar.addi c0_i32_156 v233
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_157 : BitVec 32 := 2#32
  let v235 : BitVec 32 := Scalar.muli v11 c2_i32_157
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v237 : BitVec 32 := Scalar.muli v8 c1_i32_158
  let v238 : BitVec 32 := Scalar.addi v236 v237
  v238.toNat
def k0_dev16 (d0 : Dev nD) : Nat :=
  let c0_i32_173 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_172 : BitVec 32 := 4#32
  let v257 : BitVec 32 := Scalar.muli v10 c4_i32_172
  let v258 : BitVec 32 := Scalar.addi c0_i32_173 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v259 : BitVec 32 := Scalar.muli v5 c2_i32_174
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v261 : BitVec 32 := Scalar.muli v8 c1_i32_175
  let v262 : BitVec 32 := Scalar.addi v260 v261
  v262.toNat
def k0_dev17 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v269 : BitVec 32 := Scalar.muli v2 c4_i32_179
  let v270 : BitVec 32 := Scalar.addi c0_i32_180 v269
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_181 : BitVec 32 := 2#32
  let v271 : BitVec 32 := Scalar.muli v11 c2_i32_181
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v273 : BitVec 32 := Scalar.muli v8 c1_i32_182
  let v274 : BitVec 32 := Scalar.addi v272 v273
  v274.toNat
def k0_dev18 (d0 : Dev nD) : Nat :=
  let c0_i32_197 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_196 : BitVec 32 := 4#32
  let v293 : BitVec 32 := Scalar.muli v10 c4_i32_196
  let v294 : BitVec 32 := Scalar.addi c0_i32_197 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v295 : BitVec 32 := Scalar.muli v5 c2_i32_198
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v297 : BitVec 32 := Scalar.muli v8 c1_i32_199
  let v298 : BitVec 32 := Scalar.addi v296 v297
  v298.toNat
def k0_dev19 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v305 : BitVec 32 := Scalar.muli v2 c4_i32_203
  let v306 : BitVec 32 := Scalar.addi c0_i32_204 v305
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_205 : BitVec 32 := 2#32
  let v307 : BitVec 32 := Scalar.muli v11 c2_i32_205
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v309 : BitVec 32 := Scalar.muli v8 c1_i32_206
  let v310 : BitVec 32 := Scalar.addi v308 v309
  v310.toNat
def k0_off7 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_209 : BitVec 32 := 512#32
  let v317 : BitVec 32 := Scalar.muli v13 c512_i32_209
  let v318 : BitVec 32 := Scalar.addi v26 v317
  let c0_i32_211 : BitVec 32 := 0#32
  ![v318.toNat, 0]
def k0_off8 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_209 : BitVec 32 := 512#32
  let v317 : BitVec 32 := Scalar.muli v13 c512_i32_209
  let c0_i32_212 : BitVec 32 := 0#32
  ![v317.toNat, 0]
def k0_off9 (d0 : Dev nD) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c512_i32_237 : BitVec 32 := 512#32
  let v353 : BitVec 32 := Scalar.muli v20 c512_i32_237
  let c0_i32_243 : BitVec 32 := 0#32
  ![v353.toNat, 0]
def k0_dev20 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v354 : BitVec 32 := Scalar.muli v2 c4_i32_239
  let v355 : BitVec 32 := Scalar.addi c0_i32_240 v354
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_241 : BitVec 32 := 2#32
  let v356 : BitVec 32 := Scalar.muli v11 c2_i32_241
  let v357 : BitVec 32 := Scalar.addi v355 v356
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v358 : BitVec 32 := Scalar.muli v8 c1_i32_242
  let v359 : BitVec 32 := Scalar.addi v357 v358
  v359.toNat
def k0_off10 (d0 : Dev nD) : Fin 2 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_261 : BitVec 32 := 512#32
  let v386 : BitVec 32 := Scalar.muli v23 c512_i32_261
  let c120_i32_262 : BitVec 32 := 120#32
  let v387 : BitVec 32 := Scalar.addi v386 c120_i32_262
  let c0_i32_268 : BitVec 32 := 0#32
  ![v387.toNat, 0]
def k0_dev21 (d0 : Dev nD) : Nat :=
  let c0_i32_265 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_264 : BitVec 32 := 4#32
  let v388 : BitVec 32 := Scalar.muli v10 c4_i32_264
  let v389 : BitVec 32 := Scalar.addi c0_i32_265 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v390 : BitVec 32 := Scalar.muli v5 c2_i32_266
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v392 : BitVec 32 := Scalar.muli v8 c1_i32_267
  let v393 : BitVec 32 := Scalar.addi v391 v392
  v393.toNat
def k0_off11 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c512_i32_286 : BitVec 32 := 512#32
  let v420 : BitVec 32 := Scalar.muli v20 c512_i32_286
  let v421 : BitVec 32 := Scalar.addi v26 v420
  let c0_i32_288 : BitVec 32 := 0#32
  ![v421.toNat, 0]
def k0_off12 (d0 : Dev nD) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c512_i32_286 : BitVec 32 := 512#32
  let v420 : BitVec 32 := Scalar.muli v20 c512_i32_286
  let c0_i32_289 : BitVec 32 := 0#32
  ![v420.toNat, 0]
def k0_off13 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_314 : BitVec 32 := 512#32
  let v456 : BitVec 32 := Scalar.muli v23 c512_i32_314
  let v457 : BitVec 32 := Scalar.addi v26 v456
  let c0_i32_316 : BitVec 32 := 0#32
  ![v457.toNat, 0]
def k0_off14 (d0 : Dev nD) : Fin 2 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_314 : BitVec 32 := 512#32
  let v456 : BitVec 32 := Scalar.muli v23 c512_i32_314
  let c0_i32_317 : BitVec 32 := 0#32
  ![v456.toNat, 0]
def k0_off15 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_326 : BitVec 32 := 512#32
  let v472 : BitVec 32 := Scalar.muli v17 c512_i32_326
  let c120_i32_327 : BitVec 32 := 120#32
  let v473 : BitVec 32 := Scalar.addi v472 c120_i32_327
  let c120_i32_328 : BitVec 32 := 120#32
  let v474 : BitVec 32 := Scalar.addi v473 c120_i32_328
  let v475 : BitVec 32 := Scalar.addi v26 v474
  let c0_i32_330 : BitVec 32 := 0#32
  ![v475.toNat, 0]
def k0_off16 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_340 : BitVec 32 := 512#32
  let v490 : BitVec 32 := Scalar.muli v17 c512_i32_340
  let v491 : BitVec 32 := Scalar.addi v26 v490
  let c0_i32_342 : BitVec 32 := 0#32
  ![v491.toNat, 0]
def k0_off17 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_340 : BitVec 32 := 512#32
  let v490 : BitVec 32 := Scalar.muli v17 c512_i32_340
  let c0_i32_343 : BitVec 32 := 0#32
  ![v490.toNat, 0]
def k0_off18 (d0 : Dev nD) : Fin 2 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c2048_i32_15 : BitVec 32 := 2048#32
  let v26 : BitVec 32 := Scalar.muli v25 c2048_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_352 : BitVec 32 := 512#32
  let v506 : BitVec 32 := Scalar.muli v17 c512_i32_352
  let c120_i32_353 : BitVec 32 := 120#32
  let v507 : BitVec 32 := Scalar.addi v506 c120_i32_353
  let v508 : BitVec 32 := Scalar.addi v26 v507
  let c0_i32_355 : BitVec 32 := 0#32
  ![v508.toNat, 0]
def k0_off19 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.addi v15 v16
  let c512_i32_352 : BitVec 32 := 512#32
  let v506 : BitVec 32 := Scalar.muli v17 c512_i32_352
  let c120_i32_353 : BitVec 32 := 120#32
  let v507 : BitVec 32 := Scalar.addi v506 c120_i32_353
  let c0_i32_356 : BitVec 32 := 0#32
  ![v507.toNat, 0]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Regions.lean ====
/- The rows of the three arrays, the devices of the mesh, and what each array holds: the vocabulary of the proof. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol: one family of rounds whose duties are numbered by `Fin 3`. -/
abbrev UB : Type := URounds (GSem nD τ sig) (Fin 3)
/-- The pipeline's own rounds (it has none of its own here), paired with the protocol's. -/
abbrev UU : Type := UR sig nD τ × UB

local notation "𝕄" => MT nD τ sig Unit (Elt F) ℕ UU ℕ

/-! ## Runs of rows -/

/-- The row of an index: its first coordinate. -/
def rowOf {s : Shape} (i : s.Idx) : ℕ := if h : 0 < s.rank then (i ⟨0, h⟩).val else 0

/-- The elements of buffer `b` in rows `lo ≤ r < hi`. -/
def rows (b : Ref sig .tc) (lo hi : ℕ) : Finset b.ty.shape.Idx := Finset.univ.filter fun i => lo ≤ rowOf i ∧ rowOf i < hi

theorem mem_rows {b : Ref sig .tc} {lo hi : ℕ} {i : b.ty.shape.Idx} : i ∈ rows b lo hi ↔ lo ≤ rowOf i ∧ rowOf i < hi := by
  simp [rows]

/-- A share `q` of rows `lo ≤ r < hi` of device `c`'s buffer `b`, at contents `f`. -/
def pts (c : Dev nD) (b : Ref sig .tc) (lo hi : ℕ) (q : PosShare TreeShare) (f : Buf (Elt F) ((c : Thread nD τ).loc b)) : sProp 𝕄 :=
  ((c : Thread nD τ).loc b) ↦[rows b lo hi]{q} f

omit [FloatOps F] in
instance pts_storable (c : Dev nD) (b : Ref sig .tc) (lo hi : ℕ) (q : PosShare TreeShare) (f) :
    BI.Storable (upEmb : UEmb _ 𝕄) (pts (F := F) c b lo hi q f) := by unfold pts; infer_instance

section Pts
variable {c : Dev nD} {b : Ref sig .tc} {lo hi : ℕ} {q : PosShare TreeShare} {f g : Buf (Elt F) ((c : Thread nD τ).loc b)}

omit [FloatOps F] in
/-- A run of rows is its first part and the rest. -/
theorem pts_split (mid : ℕ) (h₁ : lo ≤ mid) (h₂ : mid ≤ hi) : (pts c b lo hi q f : sProp 𝕄) = iprop(pts c b lo mid q f ∗ pts c b mid hi q f) := by
  have hd : Disjoint (rows b lo mid) (rows b mid hi) := Finset.disjoint_left.mpr fun i hi hi' => by
    rw [mem_rows] at hi hi'; omega
  have hu : rows b lo hi = rows b lo mid ∪ rows b mid hi := Finset.ext fun i => by
    rw [Finset.mem_union, mem_rows, mem_rows, mem_rows]; omega
  unfold pts; rw [hu]
  exact Entails.antisymm (pointsTo_union hd).1 (pointsTo_union hd).2

omit [FloatOps F] in
/-- A share of a run of rows is its two halves. -/
theorem pts_halves : (pts c b lo hi q f : sProp 𝕄) = iprop(pts c b lo hi q.left f ∗ pts c b lo hi q.right f) := by
  have h := pointsTo_share (sig := sig) (Ix := Unit) (Name := ℕ) (U := UU) (Lvl := ℕ) (ℓ := (c : Thread nD τ).loc b) (I := rows b lo hi) (f := f)
    (q := q) (q₁ := q.left) (q₂ := q.right) (by rw [PosShare.left_op_right]; exact Part.mem_some _)
  exact Entails.antisymm h.1 h.2

omit [FloatOps F] in
/-- Only the contents of the rows themselves matter. -/
theorem pts_congr (h : ∀ i, lo ≤ rowOf i → rowOf i < hi → f i = g i) : (pts c b lo hi q f : sProp 𝕄) = pts c b lo hi q g :=
  pointsTo_congr fun i hi => h i (mem_rows.mp hi).1 (mem_rows.mp hi).2

omit [FloatOps F] in
/-- All the rows are the whole buffer. -/
theorem pts_all (h : ∀ i : b.ty.shape.Idx, rowOf i < hi) : (pts c b 0 hi q f : sProp 𝕄) = (((c : Thread nD τ).loc b) ↦{q} f) := by
  have hu : rows b 0 hi = Finset.univ := Finset.ext fun i => by rw [mem_rows]; simp [h i]
  unfold pts; rw [hu]

end Pts

/-! ## Slices of whole rows -/

/-- A rectangle of buffer `b` that runs over rows `lo ≤ r < lo + n` and every column. -/
structure RowRect (b : Ref sig .tc) (lo n : ℕ) (off size : Fin b.ty.shape.rank → ℕ) : Prop where
  mem : ∀ i : b.ty.shape.Idx, (∀ a, off a ≤ i a ∧ (i a : ℕ) < off a + size a) ↔ lo ≤ rowOf i ∧ rowOf i < lo + n

theorem rowRect_block {k n lo : ℕ} {off : Fin 2 → ℕ} (hoff : off = ![lo, 0]) (i : (⟨2, ![k, 512]⟩ : Shape).Idx) :
    (∀ a : Fin 2, off a ≤ i a ∧ (i a : ℕ) < off a + (![n, 512] : Fin 2 → ℕ) a) ↔ lo ≤ rowOf i ∧ rowOf i < lo + n := by
  subst hoff
  have h0 : rowOf i = (i (0 : Fin 2)).val := rfl
  have h1 : (i (1 : Fin 2)).val < 512 := (i (1 : Fin 2)).isLt
  rw [h0, Fin.forall_fin_two]
  show (lo ≤ (i (0 : Fin 2)).val ∧ (i (0 : Fin 2)).val < lo + n) ∧ (0 ≤ (i (1 : Fin 2)).val ∧ (i (1 : Fin 2)).val < 0 + 512) ↔ _
  omega

theorem rowRect_x {n lo : ℕ} {off : Fin 2 → ℕ} (hoff : off = ![lo, 0]) : RowRect main_arg0 lo n off ![n, 512] := ⟨fun i => rowRect_block hoff i⟩
theorem rowRect_out {n lo : ℕ} {off : Fin 2 → ℕ} (hoff : off = ![lo, 0]) : RowRect main_v1 lo n off ![n, 512] := ⟨fun i => rowRect_block hoff i⟩
theorem rowRect_comm {n lo : ℕ} {off : Fin 2 → ℕ} (hoff : off = ![lo, 0]) : RowRect cc0_scratch0 lo n off ![n, 512] := ⟨fun i => rowRect_block hoff i⟩

/-- What the slice of a whole buffer at a rectangle of rows names: those rows. -/
theorem slice_set {b : Ref sig .tc} {lo n : ℕ} {off size : Fin b.ty.shape.rank → ℕ} {inb} (h : RowRect b lo n off size) :
    ((View.whole b).slice (Rect.unit off size inb)).set = rows b lo (lo + n) := by
  rw [View.set_slice_whole]
  exact Finset.ext fun i => by rw [Rect.mem_set_unit, mem_rows]; exact h.mem i

omit [FloatOps F] in
/-- A whole-row slice's points-to is the rows'. -/
theorem slice_pts {b : Ref sig .tc} {lo n : ℕ} {off size : Fin b.ty.shape.rank → ℕ} {inb} {hs} (h : RowRect b lo n off size) (c : Dev nD)
    (q : PosShare TreeShare) (f : Buf (Elt F) ((c : Thread nD τ).loc b)) :
    ((((Memref.whole b).slice (Rect.unit off size inb) hs).view.loc (c : Thread nD τ)
        ↦[((Memref.whole b).slice (Rect.unit off size inb) hs).view.set]{q} f) : sProp 𝕄) = pts c b lo (lo + n) q f := by
  show (((c : Thread nD τ).loc b) ↦[((View.whole b).slice (Rect.unit off size inb)).set]{q} f : sProp 𝕄) = _
  rw [slice_set h]; rfl

omit [FloatOps F] in
/-- A memref's elements after `w` was written to all of them hold `g`, when `w` is `g` read through the memref. -/
theorem written_pts {sp : Space} {s : Shape} {e : EltTy} (dst : Memref sig .tc sp s e) (c : Dev nD) (q : PosShare TreeShare)
    (fd g : Buf (Elt F) (dst.view.loc (c : Thread nD τ))) (w : s.Idx → Elt F e)
    (h : ∀ j, cast (congrArg (Elt F) dst.view.elt_eq.symm) (w j) = g (dst.view.emb j)) :
    ((dst.view.loc (c : Thread nD τ) ↦[dst.view.set]{q} (dst.view.write (Elt F) fd w Finset.univ)) : sProp 𝕄)
      = (dst.view.loc (c : Thread nD τ) ↦[dst.view.set]{q} g) :=
  pointsTo_congr fun i hi => by
    obtain ⟨j, -, rfl⟩ := Finset.mem_map.mp hi
    rw [View.write_emb_of_mem _ _ (Finset.mem_univ j)]
    exact h j

/-! ## The devices

Device `c = 4 x + 2 y + z` of the 2 × 2 × 2 mesh. Its neighbour in direction 0 differs in `z`, in direction 1 in `x`, in direction 2 in `y`. -/

/-- Device `c`'s neighbour in direction `d`. -/
def nb (d : Fin 3) (c : Dev nD) : Dev nD :=
  match d with
  | 0 => ⟨4 * (c.val / 4) + 2 * ((c.val / 2) % 2) + (1 - c.val % 2), by have : c.val < 8 := c.isLt; show _ < 8; omega⟩
  | 1 => ⟨4 * (1 - c.val / 4) + 2 * ((c.val / 2) % 2) + c.val % 2, by have : c.val < 8 := c.isLt; show _ < 8; omega⟩
  | 2 => ⟨4 * (c.val / 4) + 2 * (1 - (c.val / 2) % 2) + c.val % 2, by have : c.val < 8 := c.isLt; show _ < 8; omega⟩

theorem nb_nb (d : Fin 3) (c : Dev nD) : nb d (nb d c) = c := by revert d c; decide

/-- The neighbour map as a permutation of the devices. -/
def nbE (d : Fin 3) : Dev nD ≃ Dev nD := ⟨nb d, nb d, nb_nb d, nb_nb d⟩

/-- The first rows of the four quarters of a 2048-row block, seen from device `c`: its own (`x`, `y` as `c`'s), the two of its
    `x` and `y` neighbours, and the diagonal one. -/
def qO (c : Dev nD) : ℕ := 1024 * (c.val / 4) + 512 * ((c.val / 2) % 2)
def qX (c : Dev nD) : ℕ := 1024 * (1 - c.val / 4) + 512 * ((c.val / 2) % 2)
def qY (c : Dev nD) : ℕ := 1024 * (c.val / 4) + 512 * (1 - (c.val / 2) % 2)
def qD (c : Dev nD) : ℕ := 1024 * (1 - c.val / 4) + 512 * (1 - (c.val / 2) % 2)

omit [FloatOps F] in
/-- A run of 2048 rows is its four quarters. -/
theorem pts_quarters {b : Ref sig .tc} {q : PosShare TreeShare} (d c : Dev nD) {f : Buf (Elt F) ((d : Thread nD τ).loc b)} (p : ℕ) :
    (pts d b p (p + 2048) q f : sProp 𝕄)
      = iprop(pts d b (p + qO c) (p + qO c + 512) q f ∗ pts d b (p + qX c) (p + qX c + 512) q f
          ∗ pts d b (p + qY c) (p + qY c + 512) q f ∗ pts d b (p + qD c) (p + qD c + 512) q f) := by
  rw [pts_split (p + 512) (by omega) (by omega), pts_split (lo := p + 512) (p + 1024) (by omega) (by omega),
    pts_split (lo := p + 1024) (p + 1536) (by omega) (by omega)]
  have hx : c.val / 4 = 0 ∨ c.val / 4 = 1 := by have : c.val < 8 := c.isLt; omega
  have hy : (c.val / 2) % 2 = 0 ∨ (c.val / 2) % 2 = 1 := by omega
  rcases hx with hx | hx <;> rcases hy with hy | hy <;> simp only [qO, qX, qY, qD, hx, hy, Nat.add_zero, Nat.mul_zero, Nat.mul_one, Nat.sub_self, Nat.sub_zero, Nat.add_assoc, Nat.reduceAdd] <;>
    exact Entails.antisymm (show _ ⊢ (_ : sProp 𝕄) by iintro ⟨H1, H2, H3, H4⟩; iframe)
      (show _ ⊢ (_ : sProp 𝕄) by iintro ⟨H1, H2, H3, H4⟩; iframe)

/-! ## The transfers

Transfer `i` of device `c` sends rows `lo c i ≤ r < lo c i + len i` to its neighbour in direction `dir i`. The first six come
from the device's own block; the others forward rows it has received. -/

def dir : Fin 18 → Fin 3 := ![0, 0, 0, 0, 0, 0, 1, 1, 1, 1, 1, 2, 2, 2, 2, 2, 2, 1]
def len : Fin 18 → ℕ := ![32, 64, 128, 160, 128, 272, 32, 64, 128, 160, 128, 32, 64, 128, 160, 128, 120, 120]
/-- The first row device `c` sends. -/
def lo (c : Dev nD) : Fin 18 → ℕ :=
  ![qO c, qO c + 32, qO c + 96, qO c + 224, qO c + 384, qD c + 240, qO c, qO c + 32, qO c + 96, qO c + 224, qO c + 384,
    qO c, qO c + 32, qO c + 96, qO c + 224, qO c + 384, qX c, qY c + 120]
/-- The first row device `c` receives. -/
def rlo (c : Dev nD) : Fin 18 → ℕ :=
  ![qO c, qO c + 32, qO c + 96, qO c + 224, qO c + 384, qD c + 240, qX c, qX c + 32, qX c + 96, qX c + 224, qX c + 384,
    qY c, qY c + 32, qY c + 96, qY c + 224, qY c + 384, qD c, qD c + 120]

/-- The device transfer `i` of device `c` goes to; also the one `c` gets its own transfer `i` from. -/
def peer (c : Dev nD) (i : Fin 18) : Dev nD := nb (dir i) c

theorem peer_peer (c : Dev nD) (i : Fin 18) : peer (peer c i) i = c := nb_nb _ _

/-- What one end sends the other receives. -/
theorem rlo_peer (c : Dev nD) (i : Fin 18) : rlo (peer c i) i = lo c i := by revert c i; decide

theorem len_pos (i : Fin 18) : 0 < len i := by revert i; decide

/-! ## Contents -/

/-- The device whose block of the argument row `r` of device `c`'s receive buffer comes from. It is a device of the other `z`: the one
    that owns the quarter, except that the lower part of the diagonal quarter comes from `c`'s own `z` neighbour. -/
def src (c : Dev nD) (r : ℕ) : Dev nD :=
  if qD c + 240 ≤ r ∧ r < qD c + 512 then nb 0 c else ⟨(2 * (r / 512) + (1 - c.val % 2)) % 8, Nat.mod_lt _ (by decide)⟩

variable (m : (ℓ : Loc nD τ sig) → Buf (Elt F) ℓ)

/-- Device `c`'s block of the argument. -/
def xOf (c : Dev nD) : S2048x512.Idx → Elt F .f32 := m ((c : Thread nD τ).loc main_arg0)

/-- What device `c`'s receive buffer holds at the end: each row, of the block of the device it comes from. -/
def fin (c : Dev nD) : S2048x512.Idx → Elt F .f32 := fun i => xOf m (src c (rowOf i)) i

/-- An index of the result taken into its half of 2048 rows. -/
def down (i : S4096x512.Idx) : S2048x512.Idx :=
  fun a => ⟨(i a).val % 2048, by
    have h1 : (i (1 : Fin 2)).val < 512 := (i (1 : Fin 2)).isLt
    revert a; rw [Fin.forall_fin_two]
    exact ⟨Nat.mod_lt _ (by decide), by show (i (1 : Fin 2)).val % 2048 < 512; omega⟩⟩

/-- What device `c`'s result holds at the end: its own block in the half of its `z`, the received rows in the other. -/
def outF (c : Dev nD) : S4096x512.Idx → Elt F .f32 :=
  fun i => if rowOf i / 2048 = c.val % 2 then xOf m c (down i) else fin m c (down i)

/-- Where the rows sent from the own block lie: in the own quarter or in the lower part of the diagonal one. -/
theorem lo_first : ∀ (c : Dev nD) (i : Fin 18), i < 6 →
    (qO c ≤ lo c i ∧ lo c i + len i ≤ qO c + 512) ∨ (qD c + 240 ≤ lo c i ∧ lo c i + len i ≤ qD c + 512) := by decide

/-- Where the forwarded rows lie: in a quarter that is diagonal for neither end, or in the upper part of the receiver's diagonal one. -/
theorem lo_forward : ∀ (c : Dev nD) (i : Fin 18), 6 ≤ i →
    ∃ p < 4, 512 * p ≤ lo c i ∧ lo c i + len i ≤ 512 * p + 512 ∧ 512 * p ≠ qD c ∧ (512 * p ≠ qD (peer c i) ∨ lo c i + len i ≤ 512 * p + 240) := by
  decide

theorem qD_mul : ∀ c : Dev nD, ∃ k < 4, qD c = 512 * k := by decide
theorem qD_z : ∀ c : Dev nD, qD (nb 0 c) = qD c := by decide
theorem qO_ne_qD : ∀ c : Dev nD, qO c ≠ qD c := by decide
theorem owner_z : ∀ c : Dev nD, (2 * (c.val / 2) + (1 - (nb 0 c).val % 2)) % 8 = c.val := by decide
theorem nb_mod : ∀ (c : Dev nD) (i : Fin 18), 6 ≤ i → (peer c i).val % 2 = c.val % 2 := by decide
theorem peer_first : ∀ (c : Dev nD) (i : Fin 18), i < 6 → peer c i = nb 0 c := by decide

/-- Away from the lower part of the diagonal quarter a row comes from the other `z`'s owner of its quarter. -/
theorem src_else (c : Dev nD) (p r : ℕ) (h1 : 512 * p ≤ r) (h2 : r < 512 * p + 512) (h : 512 * p ≠ qD c ∨ r < 512 * p + 240) :
    src c r = ⟨(2 * p + (1 - c.val % 2)) % 8, Nat.mod_lt _ (by decide)⟩ := by
  obtain ⟨k, -, hk⟩ := qD_mul c
  have hp : r / 512 = p := by omega
  unfold src
  rw [if_neg (by omega)]
  simp only [hp]

/-- The rows device `c` sends of its own block are the ones its `z` neighbour is to hold of it. -/
theorem src_first (c : Dev nD) (i : Fin 18) (hi : i < 6) (r : ℕ) (h1 : lo c i ≤ r) (h2 : r < lo c i + len i) : src (peer c i) r = c := by
  rw [peer_first c i hi]
  rcases lo_first c i hi with h | h
  · have hq : qO c = 512 * (c.val / 2) := by have : c.val < 8 := c.isLt; unfold qO; omega
    have hne : 512 * (c.val / 2) ≠ qD (nb 0 c) := by rw [qD_z, ← hq]; exact qO_ne_qD c
    rw [src_else (nb 0 c) (c.val / 2) r (by omega) (by omega) (.inl hne)]
    exact Fin.ext (owner_z c)
  · unfold src
    rw [qD_z, if_pos (by omega), nb_nb]

/-- The rows device `c` forwards come from the same device at both ends. -/
theorem src_forward (c : Dev nD) (i : Fin 18) (hi : 6 ≤ i) (r : ℕ) (h1 : lo c i ≤ r) (h2 : r < lo c i + len i) : src (peer c i) r = src c r := by
  obtain ⟨p, -, ha, hb, hc, hd⟩ := lo_forward c i hi
  rw [src_else c p r (by omega) (by omega) (.inl hc), src_else (peer c i) p r (by omega) (by omega) (hd.imp id fun h => by omega)]
  simp only [nb_mod c i hi]

end Cert.GatherProof

end
-- ==== Proof.Protocol.lean ====
/- The protocol of the kernel's semaphores: which cell is paid what, by whom, and in what order the dues fall. -/
module

public import proofs.«01_k».proof.Proof.Regions

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's rounds and the protocol's, in the ghost state. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore, and the DMA semaphores of the sends, of the receipts and of the copies to the result. -/
abbrev barS : Sem sig := (SemArray.scalar (sig.barrier 0 rfl) : Sems sig S_).sem
abbrev sendS (i : Fin 18) : DmaSem sig := (⟨i.val, by omega⟩ : Fin 43)
abbrev recvS (i : Fin 18) : DmaSem sig := (⟨18 + i.val, by omega⟩ : Fin 43)
abbrev copyS (j : Fin 7) : DmaSem sig := (⟨36 + j.val, by omega⟩ : Fin 43)

abbrev barCell (c : Dev nD) : GSem nD τ sig := ((c : Thread nD τ), .reg barS)
abbrev sendCell (c : Dev nD) (i : Fin 18) : GSem nD τ sig := ((c : Thread nD τ), .dma (sendS i))
abbrev recvCell (c : Dev nD) (i : Fin 18) : GSem nD τ sig := ((c : Thread nD τ), .dma (recvS i))
abbrev copyCell (c : Dev nD) (j : Fin 7) : GSem nD τ sig := ((c : Thread nD τ), .dma (copyS j))

/-- The kernel's own semaphores, and these with the barrier. -/
abbrev KO : Type := Fin 18 ⊕ (Fin 18 ⊕ Fin 7)
abbrev KI : Type := Unit ⊕ KO
abbrev osem : KO → SemLoc sig
  | .inl i => .dma (sendS i)
  | .inr (.inl i) => .dma (recvS i)
  | .inr (.inr j) => .dma (copyS j)
abbrev csem : KI → SemLoc sig
  | .inl _ => .reg barS
  | .inr k => osem k
abbrev kcell (ck : Dev nD × KI) : GSem nD τ sig := ((ck.1 : Thread nD τ), csem ck.2)

/-- What a transfer of `n` rows credits. -/
abbrev rowCredit (n : ℕ) : ℕ := RefSig.tileCredit ⟨2, ![n, 512]⟩ .f32

theorem rowCredit_pos {n : ℕ} (h : 0 < n) : 0 < rowCredit n :=
  RefSig.tileCredit_pos _ _ (by unfold Shape.numel; rw [Fin.prod_univ_two]; exact Nat.mul_pos h (by decide : 0 < 512))

/-! ## The copies to the result -/

/-- The rows copy `j` reads (of the own block for `j = 0`, else of the receive buffer), how many, and where it writes. -/
def cLen : Fin 7 → ℕ := ![2048, 512, 512, 512, 272, 120, 120]
def cLo (c : Dev nD) : Fin 7 → ℕ := ![0, qO c, qX c, qY c, qD c + 240, qD c, qD c + 120]
def oBase (c : Dev nD) : ℕ := 2048 * (1 - c.val % 2)
def oLo (c : Dev nD) : Fin 7 → ℕ :=
  ![2048 * (c.val % 2), oBase c + qO c, oBase c + qX c, oBase c + qY c, oBase c + (qD c + 240), oBase c + qD c, oBase c + (qD c + 120)]
theorem cLen_pos (j : Fin 7) : 0 < cLen j := by revert j; decide

/-- The share copy `j` reads with: the rows that are forwarded too keep the other half. -/
def cShare : Fin 7 → PosShare TreeShare :=
  ![fullShare.left, fullShare.right, fullShare.right, fullShare.right, fullShare, fullShare, fullShare]

/-! ## What the cells deliver -/

/-- The share of the rows transfer `i` reads: of the own block's other half, or of what is not kept for the copies. -/
def sShare : Fin 18 → PosShare TreeShare :=
  ![fullShare.right, fullShare.right, fullShare.right, fullShare.right, fullShare.right, fullShare.right,
    fullShare.left.left, fullShare.left.left, fullShare.left.left, fullShare.left.left, fullShare.left.left,
    fullShare.left.right, fullShare.left.right, fullShare.left.right, fullShare.left.right, fullShare.left.right,
    fullShare.left, fullShare.left]

/-- The rows transfer `i` of device `c` reads. -/
def sendPay (c : Dev nD) (i : Fin 18) : sProp 𝕄 :=
  if i < 6 then pts c main_arg0 (lo c i) (lo c i + len i) (sShare i) (xOf m c)
  else pts c cc0_scratch0 (lo c i) (lo c i + len i) (sShare i) (fin m c)

/-- The rows transfer `i` delivers to device `c`. -/
def recvPay (c : Dev nD) (i : Fin 18) : sProp 𝕄 := pts c cc0_scratch0 (rlo c i) (rlo c i + len i) fullShare (fin m c)

/-- The rows copy `j` of device `c` reads. -/
def copySrc (c : Dev nD) (j : Fin 7) : sProp 𝕄 :=
  if j = 0 then pts c main_arg0 (cLo c j) (cLo c j + cLen j) (cShare j) (xOf m c)
  else pts c cc0_scratch0 (cLo c j) (cLo c j + cLen j) (cShare j) (fin m c)

/-- The rows copy `j` of device `c` writes, before and after. -/
def outRaw (c : Dev nD) (j : Fin 7) : sProp 𝕄 := iprop(∃ f, pts (F := F) c main_v1 (oLo c j) (oLo c j + cLen j) fullShare f)
def outPts (c : Dev nD) (j : Fin 7) : sProp 𝕄 := pts c main_v1 (oLo c j) (oLo c j + cLen j) fullShare (outF m c)
def copyPay (c : Dev nD) (j : Fin 7) : sProp 𝕄 := iprop(copySrc m c j ∗ outPts m c j)

/-- The rows of device `d`'s receive buffer that transfer `i` lands in, at whatever contents. -/
def landing (d : Dev nD) (i : Fin 18) : sProp 𝕄 := iprop(∃ f, pts (F := F) d cc0_scratch0 (rlo d i) (rlo d i + len i) fullShare f)

/-- The transfers in direction `d`. -/
def inDir : Fin 3 → List (Fin 18) := ![[0, 1, 2, 3, 4, 5], [6, 7, 8, 9, 10, 17], [11, 12, 13, 14, 15, 16]]

/-- What the signal of `c`'s neighbour in direction `d` hands `c`: where `c`'s transfers in that direction land. -/
def barPay (c : Dev nD) (d : Fin 3) : sProp 𝕄 := bigSepL (inDir d) fun i => landing (F := F) (nb d c) i

/-! ## The schedule -/

/-- Rows moved by the transfer that completes on DMA semaphore `k`. -/
def semRows (k : Fin 43) : ℕ :=
  if h : k.val < 18 then len ⟨k.val, h⟩ else if h' : k.val < 36 then len ⟨k.val - 18, by omega⟩ else cLen ⟨k.val - 36, by omega⟩
theorem semRows_pos (k : Fin 43) : 0 < semRows k := by
  unfold semRows; split; · exact len_pos _
  split; · exact len_pos _
  exact cLen_pos _

def semAmount : SemLoc sig → ℕ
  | .reg _ => 1
  | .dma k => rowCredit (semRows k)

def semPay (c : Dev nD) (sm : SemLoc sig) (d : Fin 3) : sProp 𝕄 :=
  match sm with
  | .reg _ => barPay c d
  | .dma (k : Fin 43) =>
    if h : k.val < 18 then sendPay m c ⟨k.val, h⟩
    else if h' : k.val < 36 then recvPay m c ⟨k.val - 18, by omega⟩
    else copyPay m c ⟨k.val - 36, by omega⟩

/-- One round. A barrier cell has three duties of one unit, one per neighbour; a DMA cell one duty, its transfer's credit. -/
def sched : Rounds.Schedule (GSem nD τ sig) (Fin 3) 𝕄 where
  duties g r := if r = 0 then (match g.2 with | .reg _ => Finset.univ | .dma _ => {0}) else ∅
  unitless _ := False
  amount g _ _ := semAmount g.2
  payload g _ d := semPay m g.1.1 g.2 d
  amount_pos g _ _ _ := by
    rcases g.2 with s | k
    · exact Nat.one_pos
    · exact rowCredit_pos (semRows_pos k)

omit [FloatOps F] in
instance landing_storable (d : Dev nD) (i : Fin 18) : BI.Storable (upEmb : UEmb _ 𝕄) (landing (F := F) d i) := by unfold landing; infer_instance
omit [FloatOps F] in
theorem bigSepL_storable {I : Type} (Φ : I → sProp 𝕄) [∀ i, BI.Storable (upEmb : UEmb _ 𝕄) (Φ i)] :
    ∀ l : List I, BI.Storable (upEmb : UEmb _ 𝕄) (bigSepL l Φ)
  | [] => inferInstanceAs (BI.Storable _ iprop(emp))
  | i :: l => by
    rw [bigSepL_cons]
    have := bigSepL_storable Φ l
    exact inferInstanceAs (BI.Storable _ iprop(Φ i ∗ bigSepL l Φ))
omit [FloatOps F] in
instance barPay_storable (c : Dev nD) (d : Fin 3) : BI.Storable (upEmb : UEmb _ 𝕄) (barPay (F := F) c d) := bigSepL_storable _ _
omit [FloatOps F] in
instance sendPay_storable (c : Dev nD) (i : Fin 18) : BI.Storable (upEmb : UEmb _ 𝕄) (sendPay m c i) := by
  unfold sendPay; split <;> infer_instance
omit [FloatOps F] in
instance recvPay_storable (c : Dev nD) (i : Fin 18) : BI.Storable (upEmb : UEmb _ 𝕄) (recvPay m c i) := by unfold recvPay; infer_instance
omit [FloatOps F] in
instance copyPay_storable (c : Dev nD) (j : Fin 7) : BI.Storable (upEmb : UEmb _ 𝕄) (copyPay m c j) := by
  unfold copyPay copySrc outPts; split <;> infer_instance
omit [FloatOps F] in
instance sched_storable (g : GSem nD τ sig) (r : ℕ) (d : Fin 3) : BI.Storable (upEmb : UEmb _ 𝕄) ((sched m).payload g r d) := by
  show BI.Storable _ (semPay m g.1.1 g.2 d)
  unfold semPay
  (repeat' split) <;> infer_instance

section Facts
variable (c : Dev nD)

omit [FloatOps F] in
theorem duties_later (g : GSem nD τ sig) : ∀ r, 0 + 1 ≤ r → (sched m).duties g r = ∅ := fun r hr => if_neg (by omega)
omit [FloatOps F] in
theorem duties_bar : (sched m).duties (barCell c) 0 = Finset.univ := rfl
omit [FloatOps F] in
theorem duties_dma (k : DmaSem sig) : (sched m).duties ((c : Thread nD τ), .dma k) 0 = {0} := rfl
omit [FloatOps F] in
theorem expect_bar : (sched m).expect (barCell c) 0 = 3 := rfl
omit [FloatOps F] in
theorem expect_dma (k : DmaSem sig) : (sched m).expect ((c : Thread nD τ), .dma k) 0 = semAmount (.dma k) := by
  unfold Schedule.expect Schedule.amountOf; rw [duties_dma, Finset.sum_singleton]; rfl

theorem amount_send (i : Fin 18) : semAmount (.dma (sendS i)) = rowCredit (len i) := by
  show rowCredit (semRows _) = _
  unfold semRows; rw [dif_pos i.isLt]
theorem amount_recv (i : Fin 18) : semAmount (.dma (recvS i)) = rowCredit (len i) := by
  show rowCredit (semRows _) = _
  unfold semRows
  rw [dif_neg (show ¬ 18 + i.val < 18 by omega), dif_pos (show 18 + i.val < 36 by omega)]
  simp
theorem amount_copy (j : Fin 7) : semAmount (.dma (copyS j)) = rowCredit (cLen j) := by
  show rowCredit (semRows _) = _
  unfold semRows
  rw [dif_neg (show ¬ 36 + j.val < 18 by omega), dif_neg (show ¬ 36 + j.val < 36 by omega)]
  simp

omit [FloatOps F] in
theorem pay_send (i : Fin 18) : semPay m c (.dma (sendS i)) 0 = sendPay m c i := by
  unfold semPay; dsimp only; rw [dif_pos i.isLt]
omit [FloatOps F] in
theorem pay_recv (i : Fin 18) : semPay m c (.dma (recvS i)) 0 = recvPay m c i := by
  unfold semPay; dsimp only
  rw [dif_neg (show ¬ 18 + i.val < 18 by omega), dif_pos (show 18 + i.val < 36 by omega)]
  simp
omit [FloatOps F] in
theorem pay_copy (j : Fin 7) : semPay m c (.dma (copyS j)) 0 = copyPay m c j := by
  unfold semPay; dsimp only
  rw [dif_neg (show ¬ 36 + j.val < 18 by omega), dif_neg (show ¬ 36 + j.val < 36 by omega)]
  simp

omit [FloatOps F] in
/-- A DMA cell's round delivers its one payload. -/
theorem rest_dma (k : DmaSem sig) :
    bigSep ((sched m).duties ((c : Thread nD τ), .dma k) 0 \ ∅) (fun d => (sched m).payload ((c : Thread nD τ), .dma k) 0 d) = semPay m c (.dma k) 0 := by
  rw [Finset.sdiff_empty, duties_dma, bigSep_singleton]; rfl

omit [FloatOps F] in
/-- A barrier cell's round delivers where every transfer of its device lands. -/
theorem rest_bar :
    bigSep ((sched m).duties (barCell c) 0 \ ∅) (fun d => (sched m).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl

end Facts

/-! ## Dues and levels -/

/-- The order in which a device issues its transfers. -/
def sendOrder : List (Fin 18) := [0, 1, 2, 3, 4, 5, 6, 11, 7, 12, 8, 13, 9, 14, 10, 15, 16, 17]

/-- What device `c` owes when the transfers `l` are still to be issued: each one's credit, at its receiver. -/
def owedL (c : Dev nD) : List (Fin 18) → CellTallies nD τ sig Unit
  | [] => 0
  | i :: l => owedL c l + tallyAt (recvCell (peer c i) i) () (rowCredit (len i))

/-- What device `c` owes at launch: a unit to each neighbour's barrier, and every transfer. -/
def O₁ (c : Dev nD) : CellTallies nD τ sig Unit := owedL c sendOrder + tallyAt (barCell (nb 2 c)) () 1
def O₂ (c : Dev nD) : CellTallies nD τ sig Unit := O₁ c + tallyAt (barCell (nb 1 c)) () 1
def O₀ (c : Dev nD) : CellTallies nD τ sig Unit := O₂ c + tallyAt (barCell (nb 0 c)) () 1

def L (g : GSem nD τ sig) : Finset Unit := if g.1.2 = .tc then {()} else ∅

/-- Levels of the receive cells: what needs no other receipt, what forwards it, what forwards that. -/
def recvLevel : Fin 18 → ℕ := ![2, 2, 2, 2, 2, 2, 3, 3, 3, 3, 3, 3, 3, 3, 3, 3, 4, 4]
def lv (g : GSem nD τ sig) (_ : Unit) : ℕ :=
  match g.2 with
  | .reg _ => 1
  | .dma (k : Fin 43) => if h : 18 ≤ k.val ∧ k.val < 36 then recvLevel ⟨k.val - 18, by omega⟩ else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 18) : lv (recvCell c i) () = recvLevel i := by
  unfold lv; dsimp only
  rw [dif_pos (by simp; omega)]
  simp
theorem lv_bar (c : Dev nD) : lv (barCell c) () = 1 := rfl

/-- What is owed is owed to a receive cell, of a transfer still to be issued. -/
theorem owedL_pos {c : Dev nD} {l : List (Fin 18)} {g : GSem nD τ sig} {u : Unit} (h : 0 < owedL c l g u) : ∃ i ∈ l, g = recvCell (peer c i) i := by
  induction l with
  | nil => exact absurd h (Nat.lt_irrefl 0)
  | cons i l ih =>
    unfold owedL at h
    rw [Pi.add_apply, Finsupp.add_apply] at h
    by_cases hp : 0 < owedL c l g u
    · obtain ⟨j, hj, hg⟩ := ih hp
      exact ⟨j, List.mem_cons_of_mem _ hj, hg⟩
    · rw [Nat.eq_zero_of_not_pos hp, Nat.zero_add] at h
      exact ⟨i, List.mem_cons_self, (Pipeline.tallyAt_pos h).1⟩

omit [FloatOps F] in
/-- A device may wait at a cell of level `n` while every transfer it still owes is of a higher level. -/
theorem mayWait_below (c : Dev nD) (sm : SemLoc sig) (n : ℕ) (hsm : lv ((c : Thread nD τ), sm) () = n) (l : List (Fin 18)) (hl : ∀ i ∈ l, n < recvLevel i) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨i, -, rfl⟩ := owedL_pos hg; rw [L_tc]; exact Finset.mem_singleton_self _)
    (fun p hp => by rw [Finset.mem_singleton.mp hp]; exact hsm.le)
    (fun g u hg => by obtain ⟨i, hi, rfl⟩ := owedL_pos hg; rw [lv_recv]; exact hl i hi)

/-! ## Standing facts -/

/-- The invariants of all the cells, under the names `K` the launch gives them, and that their only round is open. -/
def records (K : Dev nD × KI → ℕ) : sProp 𝕄 :=
  bigSep Finset.univ fun ck => iprop(cellInv ER (sched m) (K ck) (kcell ck) ∗ reached ER (kcell ck) 0)

omit [FloatOps F] in
instance records_persistent (K : Dev nD × KI → ℕ) : BI.Persistent (records m K) := by
  unfold records; infer_instance

omit [FloatOps F] in
theorem record (K : Dev nD × KI → ℕ) (c : Dev nD) (k : KI) :
    records m K ⊢ iprop(cellInv ER (sched m) (K (c, k)) (kcell (c, k)) ∗ reached ER (kcell (c, k)) 0) :=
  bigSep_elim (Finset.mem_univ (c, k))

/-- What every step of the body may use: the records and the levels. -/
def ctx (K : Dev nD × KI → ℕ) : sProp 𝕄 := iprop(records m K ∗ levAts L lv)

instance ctx_persistent (K : Dev nD × KI → ℕ) : BI.Persistent (ctx m K) := by unfold ctx; infer_instance

/-- What device `c` still owes, whatever it has waited for. -/
def owesE (c : Dev nD) (O : CellTallies nD τ sig Unit) : sProp 𝕄 := iprop(∃ W, owes (c : Thread nD τ) O W)

/-- What device `c` issues transfer `i` with: both cells' duties and its position at its own. -/
def sendR (c : Dev nD) (i : Fin 18) : sProp 𝕄 :=
  iprop(dutyTok ER (sendCell c i) 0 (0 : Fin 3) ∗ dutyTok ER (recvCell (peer c i) i) 0 (0 : Fin 3) ∗ atPos ER (sendCell c i) 0 ∅ 0)
/-- What it waits for transfer `i`'s departure with. -/
def sentR (c : Dev nD) (i : Fin 18) : sProp 𝕄 :=
  iprop(atPos ER (sendCell c i) 0 ∅ 0 ∗ cred (tallyAt (sendCell c i) () (rowCredit (len i))))
/-- What it waits for its own receipt `i` with. -/
def recvR (c : Dev nD) (i : Fin 18) : sProp 𝕄 :=
  iprop(atPos ER (recvCell c i) 0 ∅ 0 ∗ cred (tallyAt (recvCell c i) () (rowCredit (len i))))
/-- What it issues copy `j` with, and what it waits for it with. -/
def copyR (c : Dev nD) (j : Fin 7) : sProp 𝕄 :=
  iprop(dutyTok ER (copyCell c j) 0 (0 : Fin 3) ∗ atPos ER (copyCell c j) 0 ∅ 0)
def copyingR (c : Dev nD) (j : Fin 7) : sProp 𝕄 :=
  iprop(atPos ER (copyCell c j) 0 ∅ 0 ∗ cred (tallyAt (copyCell c j) () (rowCredit (cLen j))))
/-- What it passes the barrier with. -/
def barR (c : Dev nD) : sProp 𝕄 :=
  iprop(atPos ER (barCell c) 0 ∅ 0 ∗ cred (tallyAt (barCell c) () 3))

end Cert.GatherProof

end
-- ==== Proof.Steps.lean ====
/- One theorem per kind of step of the kernel: a signal, a wait, a transfer, a copy. -/
module

public import proofs.«01_k».proof.Proof.Protocol

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

abbrev 𝒱₀ : Variants := Variants.none

/-- What it is to run program `p` on device `c` to the postcondition `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What issuing transfer `i` takes beside its rows and the dues: the cells' tokens and where it lands. -/
def ready (c : Dev nD) (i : Fin 18) : sProp 𝕄 := iprop(sendR (F := F) c i ∗ landing (F := F) (peer c i) i)

/-- What device `c` owes once it has issued its first `t` transfers. -/
def owed (c : Dev nD) (t : ℕ) : CellTallies nD τ sig Unit := owedL c (sendOrder.drop t)

/-- What the waits hand out: the counter back at zero, and the rows. -/
def gotR (c : Dev nD) (i : Fin 18) : sProp 𝕄 := iprop(semVal (recvCell c i) 0 ∗ recvPay m c i)
def leftR (c : Dev nD) (i : Fin 18) : sProp 𝕄 := iprop(semVal (sendCell c i) 0 ∗ sendPay m c i)
def copiedR (c : Dev nD) (j : Fin 7) : sProp 𝕄 := iprop(semVal (copyCell c j) 0 ∗ copyPay m c j)

section Steps
variable {c : Dev nD} {α : Type} {Q : α → sProp (MT nD τ sig Unit (Elt F) ℕ UU ℕ)} {k : PUnit → Prog (TpuEff nD τ sig (Elt F) Λ₀ .tc) α}

/-! ## The barrier -/

/-- The signal to the neighbour in direction `d` hands it where its transfers to this device land. -/
theorem step_signal (d : Fin 3) {n : Dev nD} (hn : n = nb d c) {k' : ℕ} (hk : k' = 1) {O O' : CellTallies nD τ sig Unit}
    (hO : O' = O + tallyAt (barCell (nb d c)) () 1) :
    iprop(ctx m K ∗ owesE (F := F) c O' ∗ dutyTok ER (barCell (nb d c)) 0 d ∗ bigSepL (inDir d) (landing (F := F) c))
      ⊢ iprop((owesE (F := F) c O -∗ runs c (k ⟨⟩) Q) -∗ runs c (.op (.semSignal (n : Thread nD τ) barS k') k) Q) := by
  subst hn; subst hk; subst hO
  unfold ctx owesE
  iintro ⟨⟨#HR, #HL⟩, ⟨%W, HO⟩, Ht, Hp⟩ Hk
  ihave #Hrec := (record m K (nb d c) (.inl ())) $$ HR
  icases Hrec with ⟨#HI, #Hr⟩
  iapply (Rounds.wp_signal 𝒱₀ ER (sched m) (c : Thread nD τ) none (dst := (nb d c : Thread nD τ)) (sem := barS) (κ := K (nb d c, .inl ()))
      (d := d) (by rw [duties_bar]; exact Finset.mem_univ _) (k' := 1) rfl () O rfl) $$ [HO Ht Hp]
  · isplitr; · iexact HI
    isplitl [HO]; · iexact HO
    isplitl [Ht]; · iexact Ht
    isplitl [Hp]
    · iapply (Entails.of_eq (show bigSepL (inDir d) (landing (F := F) c) = (sched m).payload ((nb d c : Thread nD τ), .reg barS) 0 d by show _ = barPay (nb d c) d; unfold barPay; rw [nb_nb])) $$ Hp
    iexact Hr
  iintro HO
  iapply Hk
  iexists W; iexact HO

/-- Past the barrier the device knows where all its transfers land. -/
theorem step_barrier {k' : ℕ} (hk : k' = 3) (l : List (Fin 18)) (hl : ∀ i ∈ l, 1 < recvLevel i) :
    iprop(ctx m K ∗ owesE (F := F) c (owedL c l) ∗ barR (F := F) c)
      ⊢ iprop(((owesE (F := F) c (owedL c l) ∗ semVal (barCell c) 0 ∗ barPay (F := F) c 0 ∗ barPay (F := F) c 1 ∗ barPay (F := F) c 2) -∗ runs c (k ⟨⟩) Q)
          -∗ runs c (.op (.semWait barS k') k) Q) := by
  subst hk
  unfold ctx owesE barR
  iintro ⟨⟨#HR, #HL⟩, ⟨%W, HO⟩, Hat, Hc⟩ Hk
  ihave #Hrec := (record m K c (.inl ())) $$ HR
  icases Hrec with ⟨#HI, #Hr⟩
  iapply (Rounds.wp_wait_rest_token 𝒱₀ ER (sched m) (c : Thread nD τ) none (κ := K (c, .inl ()))
      (wpE_semWait_eq 𝒱₀ (c : Thread nD τ) none Set.univ) (Set.mem_univ _) () (O := owedL c l) (W := W) (R := 0) (m := 0) (T := ∅)
      (by rw [expect_bar])) $$ [HO Hat Hc]
  · isplitr; · iexact HI
    isplitl [Hc]; · iexact Hc
    isplitl [HO]; · iexact HO
    isplitr; · iapply (mayWait_below c (.reg barS) 1 (lv_bar c) l hl); iexact HL
    iexact Hat
  iintro ⟨HO, Hat, -, Hpay⟩
  imod (Rounds.cell_close ER (sched m) (Set.mem_univ (K (c, .inl ()))) (fun h => h) (R := 0 + 1) (duties_later m (barCell c))) $$ [Hat] with Hz
  · isplitr; · iexact HI
    iexact Hat
  ihave Hpay := (Entails.of_eq (rest_bar m c)) $$ Hpay
  iapply Hk
  isplitl [HO]; · iexists _; iexact HO
  isplitl [Hz]; · iexact Hz
  iexact Hpay

/-! ## Waits at the DMA cells -/

/-- The wait at a DMA cell for its whole credit: the cell closes and its payload comes out. -/
theorem step_wait (q : KO) {sem : DmaSem sig} (hsem : SemLoc.dma sem = osem q) {sp sp' : Space} {s s' : Shape} {e e' : EltTy}
    {src : Memref sig .tc sp' s' e'} {dst : Memref sig .tc sp s e} {hsrc : src.view.WordExact} {hdst : dst.view.WordExact}
    (N : ℕ) (hN : dst.view.dmaCredit = N) (hA : semAmount (osem q) = N) (l : List (Fin 18))
    (hl : ∀ i ∈ l, lv ((c : Thread nD τ), osem q) () < recvLevel i) :
    iprop(ctx m K ∗ owesE (F := F) c (owedL c l) ∗ atPos ER (kcell (c, .inr q)) 0 ∅ 0 ∗ cred (tallyAt (kcell (c, .inr q)) () N))
      ⊢ iprop(((owesE (F := F) c (owedL c l) ∗ semVal (kcell (c, .inr q)) 0 ∗ semPay m c (osem q) 0) -∗ runs c (k ⟨⟩) Q)
          -∗ runs c (.op (.waitDma2 sem src dst hsrc hdst) k) Q) := by
  have hc : kcell (c, .inr q) = ((c : Thread nD τ), SemLoc.dma sem) := by rw [hsem]
  rw [hc, ← hsem]
  rw [← hsem] at hA hl
  subst hN
  unfold ctx owesE
  iintro ⟨⟨#HR, #HL⟩, ⟨%W, HO⟩, Hat, Hc⟩ Hk
  ihave #Hrec := ((record m K c (.inr q)).trans (Entails.of_eq (by rw [hc]))) $$ HR
  icases Hrec with ⟨#HI, #Hr⟩
  iapply (Rounds.wp_wait_rest_token 𝒱₀ ER (sched m) (c : Thread nD τ) none (κ := K (c, .inr q))
      (wpE_waitDma2_eq 𝒱₀ (c : Thread nD τ) none Set.univ) (Set.mem_univ _) () (O := owedL c l) (W := W) (R := 0) (m := 0) (T := ∅)
      (by rw [Nat.zero_add, expect_dma, hA])) $$ [HO Hat Hc]
  · isplitr; · iexact HI
    isplitl [Hc]; · iexact Hc
    isplitl [HO]; · iexact HO
    isplitr; · iapply (mayWait_below c (.dma sem) _ rfl l hl); iexact HL
    iexact Hat
  iintro ⟨HO, Hat, -, Hpay⟩
  imod (Rounds.cell_close ER (sched m) (Set.mem_univ (K (c, .inr q))) (fun h => h) (R := 0 + 1) (duties_later m ((c : Thread nD τ), SemLoc.dma sem))) $$ [Hat] with Hz
  · isplitr; · iexact HI
    iexact Hat
  ihave Hpay := (Entails.of_eq (rest_dma m c sem)) $$ Hpay
  iapply Hk
  isplitl [HO]; · iexists _; iexact HO
  isplitl [Hz]; · iexact Hz
  iexact Hpay

/-- Receipt `i` has arrived. -/
theorem step_recv (i : Fin 18) {sem : DmaSem sig} (hsem : sem = recvS i) {sp sp' : Space} {s s' : Shape} {e e' : EltTy}
    {src : Memref sig .tc sp' s' e'} {dst : Memref sig .tc sp s e} {hsrc : src.view.WordExact} {hdst : dst.view.WordExact}
    (hN : dst.view.dmaCredit = rowCredit (len i)) {l : List (Fin 18)} (hl : ∀ j ∈ l, recvLevel i < recvLevel j) :
    iprop(ctx m K ∗ owesE (F := F) c (owedL c l) ∗ recvR (F := F) c i)
      ⊢ iprop(((owesE (F := F) c (owedL c l) ∗ semVal (recvCell c i) 0 ∗ recvPay m c i) -∗ runs c (k ⟨⟩) Q)
          -∗ runs c (.op (.waitDma2 sem src dst hsrc hdst) k) Q) := by
  have h := step_wait m K (c := c) (Q := Q) (k := k) (src := src) (dst := dst) (hsrc := hsrc) (hdst := hdst)
    (.inr (.inl i)) (sem := sem) (by rw [hsem]) _ hN (amount_recv i) l (by rw [lv_recv]; exact hl)
  rw [pay_recv] at h
  exact h

/-- Transfer `i` has departed: the rows it read come back. -/
theorem step_sent (i : Fin 18) {sem : DmaSem sig} (hsem : sem = sendS i) {sp sp' : Space} {s s' : Shape} {e e' : EltTy}
    {src : Memref sig .tc sp' s' e'} {dst : Memref sig .tc sp s e} {hsrc : src.view.WordExact} {hdst : dst.view.WordExact}
    (hN : dst.view.dmaCredit = rowCredit (len i)) :
    iprop(ctx m K ∗ owesE (F := F) c 0 ∗ sentR (F := F) c i)
      ⊢ iprop(((owesE (F := F) c 0 ∗ semVal (sendCell c i) 0 ∗ sendPay m c i) -∗ runs c (k ⟨⟩) Q)
          -∗ runs c (.op (.waitDma2 sem src dst hsrc hdst) k) Q) := by
  have h := step_wait m K (c := c) (Q := Q) (k := k) (src := src) (dst := dst) (hsrc := hsrc) (hdst := hdst)
    (.inl i) (sem := sem) (by rw [hsem]) _ hN (amount_send i) [] (fun j hj => absurd hj List.not_mem_nil)
  rw [pay_send] at h
  exact h

/-- Copy `j` is done: the rows it read come back and those it wrote hold the result. -/
theorem step_copied (j : Fin 7) {sem : DmaSem sig} (hsem : sem = copyS j) {sp sp' : Space} {s s' : Shape} {e e' : EltTy}
    {src : Memref sig .tc sp' s' e'} {dst : Memref sig .tc sp s e} {hsrc : src.view.WordExact} {hdst : dst.view.WordExact}
    (hN : dst.view.dmaCredit = rowCredit (cLen j)) :
    iprop(ctx m K ∗ owesE (F := F) c 0 ∗ copyingR (F := F) c j)
      ⊢ iprop(((owesE (F := F) c 0 ∗ semVal (copyCell c j) 0 ∗ copyPay m c j) -∗ runs c (k ⟨⟩) Q)
          -∗ runs c (.op (.waitDma2 sem src dst hsrc hdst) k) Q) := by
  have h := step_wait m K (c := c) (Q := Q) (k := k) (src := src) (dst := dst) (hsrc := hsrc) (hdst := hdst)
    (.inr (.inr j)) (sem := sem) (by rw [hsem]) _ hN (amount_copy j) [] (fun j hj => absurd hj List.not_mem_nil)
  rw [pay_copy] at h
  exact h

/-! ## Transfers -/

/-- Transfer `i` to its neighbour, of rows held at `fs` that the neighbour is to hold at its own final contents. -/
theorem step_send (i : Fin 18) {n : Dev nD} (hn : n = peer c i) {ls rs : DmaSem sig} (hls : ls = sendS i) (hrs : rs = recvS i)
    {sp sp' : Space} {s : Shape} {e : EltTy} {src : Memref sig .tc sp s e} {dst : Memref sig (n.tc : Thread nD τ).2.kind sp' s e}
    {hsc : dst.view.ref.isScScratch = false} {hsrc : src.view.WordExact} {hdst : dst.view.WordExact}
    {hsem : DmaTarget.Typed sp (.dma rs) (.remote (n.tc : Thread nD τ) dst (.dma ls) hsc)}
    (hN : dst.view.dmaCredit = rowCredit (len i)) (fs : Buf (Elt F) (src.view.loc (c : Thread nD τ)))
    (hs : sendPay m c i = (src.view.loc (c : Thread nD τ) ↦[src.view.set]{sShare i} fs))
    (hd : landing (F := F) n i = iprop(∃ fd, dst.view.loc (n : Thread nD τ) ↦[dst.view.set]{fullShare} fd))
    (hw : ∀ fd, (dst.view.loc (n : Thread nD τ) ↦[dst.view.set]{fullShare} (dst.view.write (Elt F) fd (src.view.read (Elt F) fs) Finset.univ)) = recvPay m n i)
    {l : List (Fin 18)} :
    iprop(ctx m K ∗ owesE (F := F) c (owedL c (i :: l)) ∗ ready (F := F) c i ∗ sendPay m c i)
      ⊢ iprop(((owesE (F := F) c (owedL c l) ∗ sentR (F := F) c i) -∗ runs c (k ⟨⟩) Q)
          -∗ runs c (.op (.enqueueDma src (.remote (n.tc : Thread nD τ) dst (.dma ls) hsc) (.dma rs) hsrc hdst hsem) k) Q) := by
  subst hn; subst hls; subst hrs
  unfold ctx owesE ready sendR sentR
  rw [hd]
  iintro ⟨⟨#HR, #HL⟩, ⟨%W, HO⟩, ⟨⟨Ht1, Ht2, Hat⟩, ⟨%fd, Hd⟩⟩, Hs⟩ Hk
  ihave #Hrec := (record m K c (.inr (.inl i))) $$ HR
  icases Hrec with ⟨#HI, #Hr⟩
  ihave #Hrec := (record m K (peer c i) (.inr (.inr (.inl i)))) $$ HR
  icases Hrec with ⟨#HI', #Hr'⟩
  ihave Hs := (Entails.of_eq hs) $$ Hs
  iapply (Rounds.wp_send_pointsTo 𝒱₀ ER (sched m) (c : Thread nD τ) none (sS := .dma (sendS i)) (sem := .dma (recvS i)) (κ₁ := K (c, .inr (.inl i))) (κ₂ := K (peer c i, .inr (.inr (.inl i))))
      (r₁ := 0) (r₂ := 0) (d₁ := 0) (d₂ := 0) (fd := fd) (by rw [duties_dma]; exact Finset.mem_singleton_self _) (by rw [duties_dma]; exact Finset.mem_singleton_self _)
      () () (rowCredit (len i)) hN (amount_send i) (amount_recv i) (owedL c l) rfl (W := W)
      (Entails.of_eq ((hs.symm).trans (pay_send m c i).symm)) (Entails.of_eq ((hw fd).trans (pay_recv m (peer c i) i).symm))) $$ [HO Ht1 Ht2 Hs Hd]
  · isplitr; · iexact HI
    isplitr; · iexact HI'
    isplitl [Hs]; · iexact Hs
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [HO]; · iexists W; iexact HO
  isplitl [Hat]; · iexact Hat
  iexact Hc

/-- Copy `j` to the result, of rows held at `fs`. -/
theorem step_copy (j : Fin 7) {sem : DmaSem sig} (hs' : sem = copyS j)
    {sp sp' : Space} {s : Shape} {e : EltTy} {src : Memref sig (c : Thread nD τ).2.kind sp s e} {dst : Memref sig (c : Thread nD τ).2.kind sp' s e}
    {hsrc : src.view.WordExact} {hdst : dst.view.WordExact} {hsem : DmaTarget.Typed (nD := nD) (τ := τ) (sig := sig) (p := .tc) sp (.dma sem) (.here dst)}
    (hN : dst.view.dmaCredit = rowCredit (cLen j)) (fs : Buf (Elt F) (src.view.loc (c : Thread nD τ)))
    (hs : copySrc m c j = (src.view.loc (c : Thread nD τ) ↦[src.view.set]{cShare j} fs))
    (hd : outRaw (F := F) c j = iprop(∃ fd, dst.view.loc (c : Thread nD τ) ↦[dst.view.set]{fullShare} fd))
    (hw : ∀ fd, (dst.view.loc (c : Thread nD τ) ↦[dst.view.set]{fullShare} (dst.view.write (Elt F) fd (src.view.read (Elt F) fs) Finset.univ)) = outPts m c j) :
    iprop(ctx m K ∗ copyR (F := F) c j ∗ copySrc m c j ∗ outRaw (F := F) c j)
      ⊢ iprop((copyingR (F := F) c j -∗ runs c (k ⟨⟩) Q)
          -∗ runs c (.op (.enqueueDma src (.here dst) (.dma sem) hsrc hdst hsem) k) Q) := by
  subst hs'
  unfold ctx copyR copyingR
  rw [hd]
  iintro ⟨⟨#HR, #HL⟩, ⟨Ht, Hat⟩, Hs, ⟨%fd, Hd⟩⟩ Hk
  ihave #Hrec := (record m K c (.inr (.inr (.inr j)))) $$ HR
  icases Hrec with ⟨#HI, #Hr⟩
  ihave Hs := (Entails.of_eq hs) $$ Hs
  iapply (Rounds.wp_copy_pointsTo 𝒱₀ ER (sched m) (c : Thread nD τ) none (sem := .dma (copyS j)) (κ := K (c, .inr (.inr (.inr j))))
      (r := 0) (d := 0) (fd := fd) (by rw [duties_dma]; exact Finset.mem_singleton_self _)
      () (rowCredit (cLen j)) hN (amount_copy j)
      (by
        rw [hw fd, ← hs]
        refine BI.Entails.trans ?_ (Entails.of_eq (pay_copy m c j).symm)
        show iprop(outPts m c j ∗ copySrc m c j) ⊢ (iprop(copySrc m c j ∗ outPts m c j) : sProp 𝕄)
        iintro ⟨H1, H2⟩
        isplitl [H2]; · iexact H2
        iexact H1)) $$ [Ht Hs Hd]
  · isplitr; · iexact HI
    isplitl [Hs]; · iexact Hs
    isplitl [Hd]; · iexact Hd
    isplitl [Ht]; · iexact Ht
    iexact Hr
  iintro Hc
  iapply Hk
  isplitl [Hat]; · iexact Hat
  iexact Hc

end Steps

/-! ## The transfers and copies of the kernel, at its own slices -/

section Slices
variable {c : Dev nD} {α : Type} {Q : α → sProp (MT nD τ sig Unit (Elt F) ℕ UU ℕ)} {k : PUnit → Prog (TpuEff nD τ sig (Elt F) Λ₀ .tc) α}
  {n lo₀ : ℕ} {off off' : Fin 2 → ℕ}

/-- An element of a slice of whole rows lies in them. -/
theorem slice_row {b : Ref sig .tc} {size off : Fin b.ty.shape.rank → ℕ} {inb} {hs} (h : RowRect b lo₀ n off size) (j) :
    lo₀ ≤ rowOf (((Memref.whole b).slice (Rect.unit off size inb) hs).view.emb j)
      ∧ rowOf (((Memref.whole b).slice (Rect.unit off size inb) hs).view.emb j) < lo₀ + n :=
  mem_rows.mp (slice_set (inb := inb) h ▸ View.emb_mem_set _ j)

omit [FloatOps F] in
/-- What the receiver's buffer holds once rows of the receive buffer or of the block are written to it. -/
theorem arrival (i : Fin 18) (hlen : len i = n) (hoff' : off' = ![lo c i, 0]) {inb'} {hs'} {nd : Dev nD} (hn : nd = peer c i)
    (w : (⟨2, ![n, 512]⟩ : Shape).Idx → Elt F .f32)
    (h : ∀ j, w j = fin m nd (((Memref.whole cc0_scratch0).slice (Rect.unit (s := S2048x512) off' ![n, 512] inb') hs').view.emb j)) (fd) :
    (((((Memref.whole cc0_scratch0).slice (Rect.unit (s := S2048x512) off' ![n, 512] inb') hs').view.loc (nd : Thread nD τ)
      ↦[((Memref.whole cc0_scratch0).slice (Rect.unit (s := S2048x512) off' ![n, 512] inb') hs').view.set]{fullShare}
        (((Memref.whole cc0_scratch0).slice (Rect.unit (s := S2048x512) off' ![n, 512] inb') hs').view.write (Elt F) fd w Finset.univ)) : sProp 𝕄))
      = recvPay m nd i := by
  refine (written_pts ((Memref.whole cc0_scratch0).slice (Rect.unit (s := S2048x512) off' ![n, 512] inb') hs') nd fullShare fd (fin m nd) w h).trans ?_
  refine (slice_pts (rowRect_comm hoff') nd fullShare (fin m nd)).trans ?_
  unfold recvPay
  rw [hn, rlo_peer, hlen]

omit [FloatOps F] in
theorem landing_slice (i : Fin 18) (hlen : len i = n) (hoff' : off' = ![lo c i, 0]) {inb'} {hs'} {nd : Dev nD} (hn : nd = peer c i) :
    landing (F := F) nd i = iprop(∃ fd, ((Memref.whole cc0_scratch0).slice (Rect.unit (s := S2048x512) off' ![n, 512] inb') hs').view.loc (nd : Thread nD τ)
      ↦[((Memref.whole cc0_scratch0).slice (Rect.unit (s := S2048x512) off' ![n, 512] inb') hs').view.set]{fullShare} fd) := by
  have h : ∀ f, pts (F := F) nd cc0_scratch0 (rlo nd i) (rlo nd i + len i) fullShare f
      = (((Memref.whole cc0_scratch0).slice (Rect.unit (s := S2048x512) off' ![n, 512] inb') hs').view.loc (nd : Thread nD τ)
      ↦[((Memref.whole cc0_scratch0).slice (Rect.unit (s := S2048x512) off' ![n, 512] inb') hs').view.set]{fullShare} f) := fun f => by
    refine Eq.trans ?_ (slice_pts (rowRect_comm hoff') nd fullShare f).symm
    rw [hn, rlo_peer, hlen]
  unfold landing
  simp only [h]

/-- Transfer `i < 6`, of the device's own block. -/
theorem send_x (i : Fin 18) (hi : i < 6) (n : ℕ) (hlen : len i = n) {nd : Dev nD} (hn : nd = peer c i) {ls rs : DmaSem sig} (hls : ls = sendS i) (hrs : rs = recvS i)
    (hoff : off = ![lo c i, 0]) {inb} {hs} {inb'} {hs'} {hsc} {hsrc} {hdst} {hsem} (t : ℕ)
    (ht : sendOrder.drop t = i :: sendOrder.drop (t + 1) := by rfl) :
    iprop(ctx m K ∗ owesE (F := F) c (owed c t) ∗ ready (F := F) c i ∗ sendPay m c i)
      ⊢ iprop(((owesE (F := F) c (owed c (t + 1)) ∗ sentR (F := F) c i) -∗ runs c (k ⟨⟩) Q)
          -∗ runs c (.op (.enqueueDma ((Memref.whole main_arg0).slice (Rect.unit (s := S2048x512) off ![n, 512] inb) hs)
              (.remote (nd.tc : Thread nD τ) ((Memref.whole cc0_scratch0).slice (Rect.unit (s := S2048x512) off ![n, 512] inb') hs') (.dma ls) hsc)
              (.dma rs) hsrc hdst hsem) k) Q) := by
  unfold owed; rw [ht]
  exact step_send m K i hn hls hrs (src := (Memref.whole main_arg0).slice (Rect.unit (s := S2048x512) off ![n, 512] inb) hs)
    (dst := (Memref.whole cc0_scratch0).slice (Rect.unit (s := S2048x512) off ![n, 512] inb') hs') (by rw [hlen]; rfl) (xOf m c)
    (by unfold sendPay; rw [if_pos hi, hlen]; exact (slice_pts (rowRect_x hoff) c (sShare i) (xOf m c)).symm)
    (landing_slice i hlen hoff hn)
    (arrival m i hlen hoff hn _ fun j => by
      have hr := slice_row (b := cc0_scratch0) (inb := inb') (hs := hs') (rowRect_comm (n := n) hoff) j
      have hsrc := src_first c i hi _ hr.1 (by rw [hlen]; exact hr.2)
      rw [← hn] at hsrc
      exact (congrArg (fun d => xOf m d (((Memref.whole cc0_scratch0).slice (Rect.unit (s := S2048x512) off ![n, 512] inb') hs').view.emb j)) hsrc).symm)

/-- Transfer `6 ≤ i`, of received rows. -/
theorem send_c (i : Fin 18) (hi : 6 ≤ i) (n : ℕ) (hlen : len i = n) {nd : Dev nD} (hn : nd = peer c i) {ls rs : DmaSem sig} (hls : ls = sendS i) (hrs : rs = recvS i)
    (hoff : off = ![lo c i, 0]) {inb} {hs} {inb'} {hs'} {hsc} {hsrc} {hdst} {hsem} (t : ℕ)
    (ht : sendOrder.drop t = i :: sendOrder.drop (t + 1) := by rfl) :
    iprop(ctx m K ∗ owesE (F := F) c (owed c t) ∗ ready (F := F) c i ∗ sendPay m c i)
      ⊢ iprop(((owesE (F := F) c (owed c (t + 1)) ∗ sentR (F := F) c i) -∗ runs c (k ⟨⟩) Q)
          -∗ runs c (.op (.enqueueDma ((Memref.whole cc0_scratch0).slice (Rect.unit (s := S2048x512) off ![n, 512] inb) hs)
              (.remote (nd.tc : Thread nD τ) ((Memref.whole cc0_scratch0).slice (Rect.unit (s := S2048x512) off ![n, 512] inb') hs') (.dma ls) hsc)
              (.dma rs) hsrc hdst hsem) k) Q) := by
  unfold owed; rw [ht]
  exact step_send m K i hn hls hrs (src := (Memref.whole cc0_scratch0).slice (Rect.unit (s := S2048x512) off ![n, 512] inb) hs)
    (dst := (Memref.whole cc0_scratch0).slice (Rect.unit (s := S2048x512) off ![n, 512] inb') hs') (by rw [hlen]; rfl) (fin m c)
    (by unfold sendPay; rw [if_neg (Fin.not_lt.mpr hi), hlen]; exact (slice_pts (rowRect_comm hoff) c (sShare i) (fin m c)).symm)
    (landing_slice i hlen hoff hn)
    (arrival m i hlen hoff hn _ fun j => by
      have hr := slice_row (b := cc0_scratch0) (inb := inb') (hs := hs') (rowRect_comm (n := n) hoff) j
      have hsrc := src_forward c i hi _ hr.1 (by rw [hlen]; exact hr.2)
      rw [← hn] at hsrc
      exact (congrArg (fun d => xOf m d (((Memref.whole cc0_scratch0).slice (Rect.unit (s := S2048x512) off ![n, 512] inb') hs').view.emb j)) hsrc).symm)

theorem oLo_zero (c : Dev nD) : oLo c 0 = 2048 * (c.val % 2) := rfl
theorem oLo_else : ∀ (c : Dev nD) (j : Fin 7), j ≠ 0 → oLo c j = oBase c + cLo c j ∧ cLo c j + cLen j ≤ 2048 := by decide

omit [FloatOps F] in
/-- The result's half of the device's own `z` holds the block. -/
theorem outF_own {i : S4096x512.Idx} {j : S2048x512.Idx} (h0 : (i (0 : Fin 2)).val = 2048 * (c.val % 2) + (j (0 : Fin 2)).val)
    (h1 : (i (1 : Fin 2)).val = (j (1 : Fin 2)).val) : outF m c i = xOf m c j := by
  have hj0 : (j (0 : Fin 2)).val < 2048 := (j (0 : Fin 2)).isLt
  have hj1 : (j (1 : Fin 2)).val < 512 := (j (1 : Fin 2)).isLt
  have hr : rowOf i = (i (0 : Fin 2)).val := rfl
  unfold outF
  rw [if_pos (by omega)]
  exact congrArg (xOf m c) (funext (Fin.forall_fin_two.mpr
    ⟨Fin.ext (show (i (0 : Fin 2)).val % 2048 = (j (0 : Fin 2)).val by omega), Fin.ext (show (i (1 : Fin 2)).val % 2048 = (j (1 : Fin 2)).val by omega)⟩))

omit [FloatOps F] in
/-- The other half holds the received rows. -/
theorem outF_other {i : S4096x512.Idx} {j : S2048x512.Idx} (h0 : (i (0 : Fin 2)).val = 2048 * (1 - c.val % 2) + (j (0 : Fin 2)).val)
    (h1 : (i (1 : Fin 2)).val = (j (1 : Fin 2)).val) : outF m c i = fin m c j := by
  have hj0 : (j (0 : Fin 2)).val < 2048 := (j (0 : Fin 2)).isLt
  have hj1 : (j (1 : Fin 2)).val < 512 := (j (1 : Fin 2)).isLt
  have hr : rowOf i = (i (0 : Fin 2)).val := rfl
  unfold outF
  rw [if_neg (by omega)]
  exact congrArg (fin m c) (funext (Fin.forall_fin_two.mpr
    ⟨Fin.ext (show (i (0 : Fin 2)).val % 2048 = (j (0 : Fin 2)).val by omega), Fin.ext (show (i (1 : Fin 2)).val % 2048 = (j (1 : Fin 2)).val by omega)⟩))

omit [FloatOps F] in
/-- What the result holds once rows are written to it. -/
theorem result (j : Fin 7) (hlen : cLen j = n) (hoff' : off' = ![oLo c j, 0]) {inb'} {hs'}
    (w : (⟨2, ![n, 512]⟩ : Shape).Idx → Elt F .f32)
    (h : ∀ a, w a = outF m c (((Memref.whole main_v1).slice (Rect.unit (s := S4096x512) off' ![n, 512] inb') hs').view.emb a)) (fd) :
    (((((Memref.whole main_v1).slice (Rect.unit (s := S4096x512) off' ![n, 512] inb') hs').view.loc (c : Thread nD τ)
      ↦[((Memref.whole main_v1).slice (Rect.unit (s := S4096x512) off' ![n, 512] inb') hs').view.set]{fullShare}
        (((Memref.whole main_v1).slice (Rect.unit (s := S4096x512) off' ![n, 512] inb') hs').view.write (Elt F) fd w Finset.univ)) : sProp 𝕄))
      = outPts m c j := by
  refine (written_pts ((Memref.whole main_v1).slice (Rect.unit (s := S4096x512) off' ![n, 512] inb') hs') c fullShare fd (outF m c) w h).trans ?_
  refine (slice_pts (rowRect_out hoff') c fullShare (outF m c)).trans ?_
  unfold outPts
  rw [hlen]

omit [FloatOps F] in
theorem outRaw_slice (j : Fin 7) (hlen : cLen j = n) (hoff' : off' = ![oLo c j, 0]) {inb'} {hs'} :
    outRaw (F := F) c j = iprop(∃ fd, ((Memref.whole main_v1).slice (Rect.unit (s := S4096x512) off' ![n, 512] inb') hs').view.loc (c : Thread nD τ)
      ↦[((Memref.whole main_v1).slice (Rect.unit (s := S4096x512) off' ![n, 512] inb') hs').view.set]{fullShare} fd) := by
  have h : ∀ f, pts (F := F) c main_v1 (oLo c j) (oLo c j + cLen j) fullShare f
      = (((Memref.whole main_v1).slice (Rect.unit (s := S4096x512) off' ![n, 512] inb') hs').view.loc (c : Thread nD τ)
      ↦[((Memref.whole main_v1).slice (Rect.unit (s := S4096x512) off' ![n, 512] inb') hs').view.set]{fullShare} f) := fun f => by
    refine Eq.trans ?_ (slice_pts (rowRect_out hoff') c fullShare f).symm
    rw [hlen]
  unfold outRaw
  simp only [h]

/-- Copy 0, of the device's own block. -/
theorem copy_x {sem : DmaSem sig} (hsem' : sem = copyS 0) (hoff' : off' = ![oLo c 0, 0]) {inb'} {hs'} {hsrc} {hdst} {hsem} :
    iprop(ctx m K ∗ copyR (F := F) c 0 ∗ copySrc m c 0 ∗ outRaw (F := F) c 0)
      ⊢ iprop((copyingR (F := F) c 0 -∗ runs c (k ⟨⟩) Q)
          -∗ runs c (.op (.enqueueDma (Memref.whole main_arg0)
              (.here ((Memref.whole main_v1).slice (Rect.unit (s := S4096x512) off' ![2048, 512] inb') hs')) (.dma sem) hsrc hdst hsem) k) Q) :=
  step_copy m K 0 hsem' (src := Memref.whole main_arg0)
    (dst := (Memref.whole main_v1).slice (Rect.unit (s := S4096x512) off' ![2048, 512] inb') hs') rfl (xOf m c)
    (by
      unfold copySrc; rw [if_pos rfl]
      refine (pts_all (c := c) (b := main_arg0) (hi := 2048) fun i => (i (0 : Fin 2)).isLt).trans ?_
      show _ = ((c : Thread nD τ).loc main_arg0 ↦[(View.whole main_arg0).set]{_} _ : sProp 𝕄)
      rw [View.set_whole])
    (outRaw_slice 0 rfl hoff')
    (result m 0 rfl hoff' _ fun a => by
      subst hoff'
      exact (outF_own m (j := (a : S2048x512.Idx)) (show oLo c 0 + 1 * (a (0 : Fin 2)).val = _ by rw [oLo_zero, Nat.one_mul])
        (show 0 + 1 * (a (1 : Fin 2)).val = (a (1 : Fin 2)).val by omega)).symm)

/-- Copy `j ≠ 0`, of received rows. -/
theorem copy_c (j : Fin 7) (hj : j ≠ 0) (n : ℕ) (hlen : cLen j = n) {sem : DmaSem sig} (hsem' : sem = copyS j) (hoff : off = ![cLo c j, 0]) (hoff' : off' = ![oLo c j, 0])
    {inb} {hs} {inb'} {hs'} {hsrc} {hdst} {hsem} :
    iprop(ctx m K ∗ copyR (F := F) c j ∗ copySrc m c j ∗ outRaw (F := F) c j)
      ⊢ iprop((copyingR (F := F) c j -∗ runs c (k ⟨⟩) Q)
          -∗ runs c (.op (.enqueueDma ((Memref.whole cc0_scratch0).slice (Rect.unit (s := S2048x512) off ![n, 512] inb) hs)
              (.here ((Memref.whole main_v1).slice (Rect.unit (s := S4096x512) off' ![n, 512] inb') hs')) (.dma sem) hsrc hdst hsem) k) Q) :=
  step_copy m K j hsem' (src := (Memref.whole cc0_scratch0).slice (Rect.unit (s := S2048x512) off ![n, 512] inb) hs)
    (dst := (Memref.whole main_v1).slice (Rect.unit (s := S4096x512) off' ![n, 512] inb') hs') (by rw [hlen]; rfl) (fin m c)
    (by unfold copySrc; rw [if_neg hj, hlen]; exact (slice_pts (rowRect_comm hoff) c (cShare j) (fin m c)).symm)
    (outRaw_slice j hlen hoff')
    (result m j hlen hoff' _ fun a => by
      have ho := (oLo_else c j hj).1
      unfold oBase at ho
      have s0 := congrFun hoff (0 : Fin 2)
      have s1 := congrFun hoff (1 : Fin 2)
      have d0 := congrFun hoff' (0 : Fin 2)
      have d1 := congrFun hoff' (1 : Fin 2)
      simp only [Matrix.cons_val_zero, Matrix.cons_val_one] at s0 s1 d0 d1
      exact (outF_other m (j := ((Memref.whole cc0_scratch0).slice (Rect.unit (s := S2048x512) off ![n, 512] inb) hs).view.emb a)
        (show off' (0 : Fin 2) + 1 * (a (0 : Fin 2)).val = 2048 * (1 - c.val % 2) + (off (0 : Fin 2) + 1 * (a (0 : Fin 2)).val) by
          rw [s0, d0, ho, Nat.add_assoc])
        (show off' (1 : Fin 2) + 1 * (a (1 : Fin 2)).val = off (1 : Fin 2) + 1 * (a (1 : Fin 2)).val by rw [s1, d1])).symm)

end Slices

section Waits
variable {c : Dev nD} {α : Type} {Q : α → sProp (MT nD τ sig Unit (Elt F) ℕ UU ℕ)} {k : PUnit → Prog (TpuEff nD τ sig (Elt F) Λ₀ .tc) α}
  {off : Fin 2 → ℕ} {sem : DmaSem sig} {sp' : Space} {s' : Shape} {e' : EltTy} {src : Memref sig .tc sp' s' e'}

/-- The wait for receipt `i`, named by the slice it lands in. -/
theorem wait_recv (i : Fin 18) (n : ℕ) (hlen : len i = n) (hsem : sem = recvS i) (t : ℕ) {inb} {hs} {hsrc hdst}
    (hl : ∀ j ∈ sendOrder.drop t, recvLevel i < recvLevel j := by decide) :
    iprop(ctx m K ∗ owesE (F := F) c (owed c t) ∗ recvR (F := F) c i)
      ⊢ iprop(((owesE (F := F) c (owed c t) ∗ gotR m c i) -∗ runs c (k ⟨⟩) Q)
          -∗ runs c (.op (.waitDma2 sem src ((Memref.whole cc0_scratch0).slice (Rect.unit (s := S2048x512) off ![n, 512] inb) hs) hsrc hdst) k) Q) :=
  step_recv m K i hsem (by rw [hlen]; rfl) hl

/-- The wait for the departure of transfer `i < 6`, named by a slice of the own block. -/
theorem wait_sent_x (i : Fin 18) (n : ℕ) (hlen : len i = n) (hsem : sem = sendS i) {inb} {hs} {hsrc hdst} :
    iprop(ctx m K ∗ owesE (F := F) c (owed c 18) ∗ sentR (F := F) c i)
      ⊢ iprop(((owesE (F := F) c (owed c 18) ∗ leftR m c i) -∗ runs c (k ⟨⟩) Q)
          -∗ runs c (.op (.waitDma2 sem src ((Memref.whole main_arg0).slice (Rect.unit (s := S2048x512) off ![n, 512] inb) hs) hsrc hdst) k) Q) :=
  step_sent m K i hsem (by rw [hlen]; rfl)

/-- The wait for the departure of transfer `6 ≤ i`, named by a slice of the receive buffer. -/
theorem wait_sent_c (i : Fin 18) (n : ℕ) (hlen : len i = n) (hsem : sem = sendS i) {inb} {hs} {hsrc hdst} :
    iprop(ctx m K ∗ owesE (F := F) c (owed c 18) ∗ sentR (F := F) c i)
      ⊢ iprop(((owesE (F := F) c (owed c 18) ∗ leftR m c i) -∗ runs c (k ⟨⟩) Q)
          -∗ runs c (.op (.waitDma2 sem src ((Memref.whole cc0_scratch0).slice (Rect.unit (s := S2048x512) off ![n, 512] inb) hs) hsrc hdst) k) Q) :=
  step_sent m K i hsem (by rw [hlen]; rfl)

/-- The wait for copy `j`, named by the slice of the result it writes. -/
theorem wait_copied (j : Fin 7) (n : ℕ) (hlen : cLen j = n) (hsem : sem = copyS j) {inb} {hs} {hsrc hdst} :
    iprop(ctx m K ∗ owesE (F := F) c (owed c 18) ∗ copyingR (F := F) c j)
      ⊢ iprop(((owesE (F := F) c (owed c 18) ∗ copiedR m c j) -∗ runs c (k ⟨⟩) Q)
          -∗ runs c (.op (.waitDma2 sem src ((Memref.whole main_v1).slice (Rect.unit (s := S4096x512) off ![n, 512] inb) hs) hsrc hdst) k) Q) :=
  step_copied m K j hsem (by rw [hlen]; rfl)

end Waits

end Cert.GatherProof

end
-- ==== Proof.Pieces.lean ====
/- How the arrays fall into the pieces the transfers and copies take, and come together again. -/
module

public import proofs.«01_k».proof.Proof.Protocol

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Pieces
variable (c : Dev nD)

omit [FloatOps F] in
/-- A quarter is its five chunks. -/
theorem pts_chunks {b : Ref sig .tc} {q : PosShare TreeShare} {f : Buf (Elt F) ((c : Thread nD τ).loc b)} (p : ℕ) :
    (pts c b p (p + 512) q f : sProp 𝕄)
      = iprop(pts c b p (p + 32) q f ∗ pts c b (p + 32) (p + 32 + 64) q f ∗ pts c b (p + 96) (p + 96 + 128) q f
          ∗ pts c b (p + 224) (p + 224 + 160) q f ∗ pts c b (p + 384) (p + 384 + 128) q f) := by
  rw [pts_split (p + 32) (by omega) (by omega), pts_split (lo := p + 32) (p + 96) (by omega) (by omega),
    pts_split (lo := p + 96) (p + 224) (by omega) (by omega), pts_split (lo := p + 224) (p + 384) (by omega) (by omega)]

omit [FloatOps F] in
/-- The diagonal quarter is its two upper parts and its lower one. -/
theorem pts_thirds {b : Ref sig .tc} {q : PosShare TreeShare} {f : Buf (Elt F) ((c : Thread nD τ).loc b)} (p : ℕ) :
    (pts c b p (p + 512) q f : sProp 𝕄)
      = iprop(pts c b p (p + 120) q f ∗ pts c b (p + 120) (p + 120 + 120) q f ∗ pts c b (p + 240) (p + 240 + 272) q f) := by
  rw [pts_split (p + 120) (by omega) (by omega), pts_split (lo := p + 120) (p + 240) (by omega) (by omega)]

/-! ## The own block -/

/-- The rows of the own block no transfer reads, at the transfers' share. -/
def xRest : sProp 𝕄 :=
  iprop(pts c main_arg0 (qX c) (qX c + 512) fullShare.right (xOf m c) ∗ pts c main_arg0 (qY c) (qY c + 512) fullShare.right (xOf m c)
    ∗ pts c main_arg0 (qD c) (qD c + 120) fullShare.right (xOf m c) ∗ pts c main_arg0 (qD c + 120) (qD c + 120 + 120) fullShare.right (xOf m c))

omit [FloatOps F] in
/-- The own block: copy 0 reads one half share of it, the first six transfers read rows of the other. -/
theorem x_pieces : ((c : Thread nD τ).loc main_arg0 ↦{fullShare} xOf m c : sProp 𝕄)
    = iprop(copySrc m c 0 ∗ (sendPay m c 0 ∗ sendPay m c 1 ∗ sendPay m c 2 ∗ sendPay m c 3 ∗ sendPay m c 4 ∗ sendPay m c 5) ∗ xRest m c) := by
  have h : ((c : Thread nD τ).loc main_arg0 ↦{fullShare} xOf m c : sProp 𝕄) = pts c main_arg0 0 (0 + 2048) fullShare (xOf m c) :=
    (pts_all (c := c) (b := main_arg0) (hi := 2048) fun i => (i (0 : Fin 2)).isLt).symm
  rw [h, pts_halves, pts_quarters (q := fullShare.right) c c 0]
  simp only [Nat.zero_add]
  rw [pts_chunks c (qO c), pts_thirds c (qD c)]
  have e0 : copySrc m c 0 = pts c main_arg0 0 2048 fullShare.left (xOf m c) := by unfold copySrc; rw [if_pos rfl]; rfl
  have e (i : Fin 18) (hi : i < 6) : sendPay m c i = pts c main_arg0 (lo c i) (lo c i + len i) (sShare i) (xOf m c) := by unfold sendPay; rw [if_pos hi]
  rw [e0, e 0 (by decide), e 1 (by decide), e 2 (by decide), e 3 (by decide), e 4 (by decide), e 5 (by decide)]
  unfold xRest
  exact Entails.antisymm
    (show _ ⊢ (_ : sProp 𝕄) by
      iintro ⟨H0, ⟨H1, H2, H3, H4, H5⟩, H6, H7, H8, H9, H10⟩
      isplitl [H0]; · iexact H0
      isplitl [H1 H2 H3 H4 H5 H10]
      · isplitl [H1]; · iexact H1
        isplitl [H2]; · iexact H2
        isplitl [H3]; · iexact H3
        isplitl [H4]; · iexact H4
        isplitl [H5]; · iexact H5
        iexact H10
      iframe)
    (show _ ⊢ (_ : sProp 𝕄) by
      iintro ⟨H0, ⟨H1, H2, H3, H4, H5, H10⟩, H6, H7, H8, H9⟩
      isplitl [H0]; · iexact H0
      isplitl [H1 H2 H3 H4 H5]
      · isplitl [H1]; · iexact H1
        isplitl [H2]; · iexact H2
        isplitl [H3]; · iexact H3
        isplitl [H4]; · iexact H4
        iexact H5
      isplitl [H6]; · iexact H6
      isplitl [H7]; · iexact H7
      isplitl [H8]; · iexact H8
      isplitl [H9]; · iexact H9
      iexact H10)

/-! ## The result -/

omit [FloatOps F] in
/-- The result is what the seven copies write. -/
theorem out_pieces (f : Buf (Elt F) ((c : Thread nD τ).loc main_v1)) : ((c : Thread nD τ).loc main_v1 ↦{fullShare} f : sProp 𝕄)
    = iprop(pts c main_v1 (oLo c 0) (oLo c 0 + cLen 0) fullShare f ∗ pts c main_v1 (oLo c 1) (oLo c 1 + cLen 1) fullShare f
      ∗ pts c main_v1 (oLo c 2) (oLo c 2 + cLen 2) fullShare f ∗ pts c main_v1 (oLo c 3) (oLo c 3 + cLen 3) fullShare f
      ∗ pts c main_v1 (oLo c 4) (oLo c 4 + cLen 4) fullShare f ∗ pts c main_v1 (oLo c 5) (oLo c 5 + cLen 5) fullShare f
      ∗ pts c main_v1 (oLo c 6) (oLo c 6 + cLen 6) fullShare f) := by
  have h : ((c : Thread nD τ).loc main_v1 ↦{fullShare} f : sProp 𝕄) = pts c main_v1 0 4096 fullShare f :=
    (pts_all (c := c) (b := main_v1) (hi := 4096) fun i => (i (0 : Fin 2)).isLt).symm
  have hz : c.val % 2 = 0 ∨ c.val % 2 = 1 := by omega
  have hh : (pts c main_v1 0 4096 fullShare f : sProp 𝕄)
      = iprop(pts c main_v1 (oLo c 0) (oLo c 0 + 2048) fullShare f ∗ pts c main_v1 (oBase c) (oBase c + 2048) fullShare f) := by
    rw [pts_split 2048 (by omega) (by omega), show oLo c 0 = 2048 * (c.val % 2) from rfl]
    unfold oBase
    rcases hz with hz | hz <;> rw [hz]
    exact Entails.antisymm BI.sep_comm BI.sep_comm
  rw [h, hh, pts_quarters c c (oBase c), pts_thirds c (oBase c + qD c)]
  exact Entails.antisymm
    (show _ ⊢ (_ : sProp 𝕄) by
      iintro ⟨H0, H1, H2, H3, H5, H6, H4⟩
      isplitl [H0]; · iexact H0
      isplitl [H1]; · iexact H1
      isplitl [H2]; · iexact H2
      isplitl [H3]; · iexact H3
      isplitl [H4]; · iexact H4
      isplitl [H5]; · iexact H5
      iexact H6)
    (show _ ⊢ (_ : sProp 𝕄) by
      iintro ⟨H0, H1, H2, H3, H4, H5, H6⟩
      isplitl [H0]; · iexact H0
      isplitl [H1]; · iexact H1
      isplitl [H2]; · iexact H2
      isplitl [H3]; · iexact H3
      isplitl [H5]; · iexact H5
      isplitl [H6]; · iexact H6
      iexact H4)

/-! ## The receive buffer -/

omit [FloatOps F] in
theorem bigSepL_six {I : Type} (Φ : I → sProp 𝕄) (i₁ i₂ i₃ i₄ i₅ i₆ : I) :
    bigSepL [i₁, i₂, i₃, i₄, i₅, i₆] Φ = iprop(Φ i₁ ∗ Φ i₂ ∗ Φ i₃ ∗ Φ i₄ ∗ Φ i₅ ∗ Φ i₆) := by
  rw [bigSepL_cons_cons, bigSepL_cons_cons, bigSepL_cons_cons, bigSepL_cons_cons, bigSepL_cons_cons, bigSepL_singleton]
  rfl

omit [FloatOps F] in
/-- The receive buffer falls into the landings of the eighteen transfers, by direction. -/
theorem comm_lands (f : Buf (Elt F) ((c : Thread nD τ).loc cc0_scratch0)) : ((c : Thread nD τ).loc cc0_scratch0 ↦{fullShare} f : sProp 𝕄)
    ⊢ iprop(bigSepL (inDir 0) (landing (F := F) c) ∗ bigSepL (inDir 1) (landing (F := F) c) ∗ bigSepL (inDir 2) (landing (F := F) c)) := by
  have h : ((c : Thread nD τ).loc cc0_scratch0 ↦{fullShare} f : sProp 𝕄) = pts c cc0_scratch0 0 (0 + 2048) fullShare f :=
    (pts_all (c := c) (b := cc0_scratch0) (hi := 2048) fun i => (i (0 : Fin 2)).isLt).symm
  rw [h, pts_quarters c c 0]
  simp only [Nat.zero_add]
  rw [pts_chunks c (qO c), pts_chunks c (qX c), pts_chunks c (qY c), pts_thirds c (qD c)]
  rw [show inDir 0 = [0, 1, 2, 3, 4, 5] from rfl, show inDir 1 = [6, 7, 8, 9, 10, 17] from rfl, show inDir 2 = [11, 12, 13, 14, 15, 16] from rfl]
  rw [bigSepL_six, bigSepL_six, bigSepL_six]
  unfold landing
  iintro ⟨⟨H0, H1, H2, H3, H4⟩, ⟨H6, H7, H8, H9, H10⟩, ⟨H11, H12, H13, H14, H15⟩, H16, H17, H5⟩
  isplitl [H0 H1 H2 H3 H4 H5]
  · isplitl [H0]; · iexists f; iexact H0
    isplitl [H1]; · iexists f; iexact H1
    isplitl [H2]; · iexists f; iexact H2
    isplitl [H3]; · iexists f; iexact H3
    isplitl [H4]; · iexists f; iexact H4
    iexists f; iexact H5
  isplitl [H6 H7 H8 H9 H10 H17]
  · isplitl [H6]; · iexists f; iexact H6
    isplitl [H7]; · iexists f; iexact H7
    isplitl [H8]; · iexists f; iexact H8
    isplitl [H9]; · iexists f; iexact H9
    isplitl [H10]; · iexists f; iexact H10
    iexists f; iexact H17
  isplitl [H11]; · iexists f; iexact H11
  isplitl [H12]; · iexists f; iexact H12
  isplitl [H13]; · iexists f; iexact H13
  isplitl [H14]; · iexists f; iexact H14
  isplitl [H15]; · iexists f; iexact H15
  iexists f; iexact H16

/-- The two half shares of receipt `i`: one to forward, one kept for the copies. -/
def half (i : Fin 18) : sProp 𝕄 := pts c cc0_scratch0 (rlo c i) (rlo c i + len i) fullShare.left (fin m c)
def kept (i : Fin 18) : sProp 𝕄 := pts c cc0_scratch0 (rlo c i) (rlo c i + len i) fullShare.right (fin m c)

omit [FloatOps F] in
theorem recv_halves (i : Fin 18) : recvPay m c i = iprop(half m c i ∗ kept m c i) := pts_halves

omit [FloatOps F] in
theorem sendPay_received {i : Fin 18} (hi : 6 ≤ i) : sendPay m c i = pts c cc0_scratch0 (lo c i) (lo c i + len i) (sShare i) (fin m c) := by
  unfold sendPay; rw [if_neg (Fin.not_lt.mpr hi)]
omit [FloatOps F] in
theorem copySrc_received {j : Fin 7} (hj : j ≠ 0) : copySrc m c j = pts c cc0_scratch0 (cLo c j) (cLo c j + cLen j) (cShare j) (fin m c) := by
  unfold copySrc; rw [if_neg hj]

omit [FloatOps F] in
/-- What is forwarded twice is halved again. -/
theorem half_fork (i j k : Fin 18) (hj : 6 ≤ j) (hk : 6 ≤ k) (ej : lo c j = rlo c i := by rfl) (ek : lo c k = rlo c i := by rfl)
    (lj : len j = len i := by rfl) (lk : len k = len i := by rfl)
    (sj : sShare j = fullShare.left.left := by rfl) (sk : sShare k = fullShare.left.right := by rfl) :
    half m c i = iprop(sendPay m c j ∗ sendPay m c k) := by
  rw [sendPay_received m c hj, sendPay_received m c hk, ej, ek, lj, lk, sj, sk]
  exact pts_halves

omit [FloatOps F] in
theorem kept_own : iprop(kept m c 0 ∗ kept m c 1 ∗ kept m c 2 ∗ kept m c 3 ∗ kept m c 4) = copySrc m c 1 :=
  (pts_chunks c (qO c)).symm.trans (copySrc_received m c (j := 1) (by decide)).symm
omit [FloatOps F] in
theorem kept_x : iprop(kept m c 6 ∗ kept m c 7 ∗ kept m c 8 ∗ kept m c 9 ∗ kept m c 10) = copySrc m c 2 :=
  (pts_chunks c (qX c)).symm.trans (copySrc_received m c (j := 2) (by decide)).symm
omit [FloatOps F] in
theorem kept_y : iprop(kept m c 11 ∗ kept m c 12 ∗ kept m c 13 ∗ kept m c 14 ∗ kept m c 15) = copySrc m c 3 :=
  (pts_chunks c (qY c)).symm.trans (copySrc_received m c (j := 3) (by decide)).symm

/-- The rows beside transfer 16's that are forwarded from the same three receipts' half shares, and beside transfer 17's. -/
def besideX : sProp 𝕄 := pts c cc0_scratch0 (qX c + 120) (qX c + 224) fullShare.left (fin m c)
def besideY : sProp 𝕄 :=
  iprop(pts c cc0_scratch0 (qY c + 96) (qY c + 120) fullShare.left (fin m c) ∗ pts c cc0_scratch0 (qY c + 240) (qY c + 384) fullShare.left (fin m c))

omit [FloatOps F] in
/-- Transfer 16 reads rows of receipts 6, 7 and 8. -/
theorem half_x : iprop(half m c 6 ∗ half m c 7 ∗ half m c 8) = iprop(sendPay m c 16 ∗ besideX m c) := by
  rw [sendPay_received m c (i := 16) (by decide)]
  refine Eq.trans (b := pts c cc0_scratch0 (qX c) (qX c + 224) fullShare.left (fin m c)) ?_ (pts_split (qX c + 120) (by omega) (by omega))
  rw [pts_split (qX c + 32) (by omega) (by omega), pts_split (lo := qX c + 32) (qX c + 96) (by omega) (by omega)]
  rfl

omit [FloatOps F] in
/-- Transfer 17 reads rows of receipts 13 and 14. -/
theorem half_y : iprop(half m c 13 ∗ half m c 14) = iprop(sendPay m c 17 ∗ besideY m c) := by
  rw [sendPay_received m c (i := 17) (by decide)]
  have h1 : iprop(half m c 13 ∗ half m c 14) = pts c cc0_scratch0 (qY c + 96) (qY c + 384) fullShare.left (fin m c) :=
    (pts_split (lo := qY c + 96) (hi := qY c + 384) (qY c + 224) (by omega) (by omega)).symm
  have h2 : pts c cc0_scratch0 (qY c + 120) (qY c + 240) fullShare.left (fin m c)
      = pts c cc0_scratch0 (lo c 17) (lo c 17 + len 17) (sShare 17) (fin m c) := rfl
  rw [h1, pts_split (qY c + 120) (by omega) (by omega), pts_split (lo := qY c + 120) (qY c + 240) (by omega) (by omega), ← h2]
  unfold besideY
  exact Entails.antisymm (show _ ⊢ (_ : sProp 𝕄) by iintro ⟨H1, H2, H3⟩; iframe) (show _ ⊢ (_ : sProp 𝕄) by iintro ⟨H1, H2, H3⟩; iframe)

omit [FloatOps F] in
/-- The receive buffer at the end is what the transfers and copies of it hand back. -/
theorem comm_pieces : iprop(((sendPay m c 6 ∗ sendPay m c 11) ∗ (sendPay m c 7 ∗ sendPay m c 12) ∗ (sendPay m c 8 ∗ sendPay m c 13) ∗ (sendPay m c 9 ∗ sendPay m c 14)
      ∗ (sendPay m c 10 ∗ sendPay m c 15)) ∗ copySrc m c 1
    ∗ ((sendPay m c 16 ∗ besideX m c) ∗ half m c 9 ∗ half m c 10) ∗ copySrc m c 2
    ∗ (half m c 11 ∗ half m c 12 ∗ (sendPay m c 17 ∗ besideY m c) ∗ half m c 15) ∗ copySrc m c 3
    ∗ copySrc m c 5 ∗ copySrc m c 6 ∗ copySrc m c 4)
    ⊢ ((c : Thread nD τ).loc cc0_scratch0 ↦{fullShare} fin m c : sProp 𝕄) := by
  have h : ((c : Thread nD τ).loc cc0_scratch0 ↦{fullShare} fin m c : sProp 𝕄) = pts c cc0_scratch0 0 (0 + 2048) fullShare (fin m c) :=
    (pts_all (c := c) (b := cc0_scratch0) (hi := 2048) fun i => (i (0 : Fin 2)).isLt).symm
  have hO : (pts c cc0_scratch0 (qO c) (qO c + 512) fullShare.left (fin m c) : sProp 𝕄)
      = iprop(half m c 0 ∗ half m c 1 ∗ half m c 2 ∗ half m c 3 ∗ half m c 4) := pts_chunks c (qO c)
  have hX : (pts c cc0_scratch0 (qX c) (qX c + 512) fullShare.left (fin m c) : sProp 𝕄)
      = iprop(half m c 6 ∗ half m c 7 ∗ half m c 8 ∗ half m c 9 ∗ half m c 10) := pts_chunks c (qX c)
  have hY : (pts c cc0_scratch0 (qY c) (qY c + 512) fullShare.left (fin m c) : sProp 𝕄)
      = iprop(half m c 11 ∗ half m c 12 ∗ half m c 13 ∗ half m c 14 ∗ half m c 15) := pts_chunks c (qY c)
  rw [h, pts_quarters c c 0]
  simp only [Nat.zero_add]
  rw [pts_halves (lo := qO c), pts_halves (lo := qX c), pts_halves (lo := qY c), hO, hX, hY, pts_thirds c (qD c), ← half_x, ← half_y,
    ← half_fork m c 0 6 11 (by decide) (by decide), ← half_fork m c 1 7 12 (by decide) (by decide), ← half_fork m c 2 8 13 (by decide) (by decide),
    ← half_fork m c 3 9 14 (by decide) (by decide), ← half_fork m c 4 10 15 (by decide) (by decide),
    copySrc_received m c (j := 1) (by decide), copySrc_received m c (j := 2) (by decide), copySrc_received m c (j := 3) (by decide),
    copySrc_received m c (j := 4) (by decide), copySrc_received m c (j := 5) (by decide), copySrc_received m c (j := 6) (by decide)]
  iintro ⟨HO, C1, ⟨⟨H6, H7, H8⟩, H9, H10⟩, C2, ⟨H11, H12, ⟨H13, H14⟩, H15⟩, C3, C5, C6, C4⟩
  isplitl [HO C1]
  · isplitl [HO]; · iexact HO
    iexact C1
  isplitl [H6 H7 H8 H9 H10 C2]
  · isplitl [H6 H7 H8 H9 H10]; · iframe
    iexact C2
  isplitl [H11 H12 H13 H14 H15 C3]
  · isplitl [H11 H12 H13 H14 H15]; · iframe
    iexact C3
  isplitl [C5]; · iexact C5
  isplitl [C6]; · iexact C6
  iexact C4

end Pieces

end Cert.GatherProof

end
-- ==== Proof.Body.lean ====
/- One device's run of the kernel, part by part. -/
module

public import proofs.«01_k».proof.Proof.Steps
public import proofs.«01_k».proof.Proof.Pieces

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The devices and offsets the kernel computes -/

/-- The device the kernel computes as its neighbour in `z`, in `x`, in `y`. -/
theorem dev_z (c : Dev nD) {v : ℕ} {hv : v < nD} (h : v = (4 * (c.val / 4) + 2 * ((c.val / 2) % 2) + 1) - (c.val % 2)) : (⟨v, hv⟩ : Dev nD) = nb 0 c :=
  Fin.ext (h.trans (by unfold nb; dsimp only; omega))
theorem dev_x (c : Dev nD) {v : ℕ} {hv : v < nD} (h : v = (2 * ((c.val / 2) % 2) + (c.val % 2) + 4) - 4 * (c.val / 4)) : (⟨v, hv⟩ : Dev nD) = nb 1 c :=
  Fin.ext (h.trans (by have : c.val < 8 := c.isLt; unfold nb; dsimp only; omega))
theorem dev_y (c : Dev nD) {v : ℕ} {hv : v < nD} (h : v = (4 * (c.val / 4) + (c.val % 2) + 2) - 2 * ((c.val / 2) % 2)) : (⟨v, hv⟩ : Dev nD) = nb 2 c :=
  Fin.ext (h.trans (by unfold nb; dsimp only; omega))

/-- Offsets of whole rows are equal when their first rows are. -/
theorem row_off {off : Fin 2 → ℕ} {a b : ℕ} (h : off = ![a, 0]) (hab : a = b) : off = ![b, 0] := hab ▸ h

theorem off3a (c : Dev nD) : k0_off3 c 96#32 = ![qO c + 96, 0] := k0_off3_eq c 0
theorem off3b (c : Dev nD) : k0_off3 c 384#32 = ![qO c + 384, 0] := k0_off3_eq c 1
theorem off5 (c : Dev nD) : k0_off5 c = ![qD c + 240, 0] := row_off (k0_off5_eq c) (by have : c.val < 8 := c.isLt; unfold qD; omega)
theorem off7 (c : Dev nD) : k0_off7 c = ![oBase c + qO c, 0] := row_off (k0_off7_eq c) (by unfold oBase qO; omega)
theorem off9 (c : Dev nD) : k0_off9 c = ![qX c, 0] := row_off (k0_off9_eq c) (by have : c.val < 8 := c.isLt; unfold qX; omega)
theorem off10 (c : Dev nD) : k0_off10 c = ![qY c + 120, 0] := row_off (k0_off10_eq c) (by unfold qY; omega)
theorem off11 (c : Dev nD) : k0_off11 c = ![oBase c + qX c, 0] := row_off (k0_off11_eq c) (by have : c.val < 8 := c.isLt; unfold oBase qX; omega)
theorem off12 (c : Dev nD) : k0_off12 c = ![qX c, 0] := row_off (k0_off12_eq c) (by have : c.val < 8 := c.isLt; unfold qX; omega)
theorem off13 (c : Dev nD) : k0_off13 c = ![oBase c + qY c, 0] := row_off (k0_off13_eq c) (by unfold oBase qY; omega)
theorem off14 (c : Dev nD) : k0_off14 c = ![qY c, 0] := row_off (k0_off14_eq c) (by unfold qY; omega)
theorem off15 (c : Dev nD) : k0_off15 c = ![oBase c + (qD c + 240), 0] := row_off (k0_off15_eq c) (by have : c.val < 8 := c.isLt; unfold oBase qD; omega)
theorem off16 (c : Dev nD) : k0_off16 c = ![oBase c + qD c, 0] := row_off (k0_off16_eq c) (by have : c.val < 8 := c.isLt; unfold oBase qD; omega)
theorem off17 (c : Dev nD) : k0_off17 c = ![qD c, 0] := row_off (k0_off17_eq c) (by have : c.val < 8 := c.isLt; unfold qD; omega)
theorem off18 (c : Dev nD) : k0_off18 c = ![oBase c + (qD c + 120), 0] := row_off (k0_off18_eq c) (by have : c.val < 8 := c.isLt; unfold oBase qD; omega)
theorem off19 (c : Dev nD) : k0_off19 c = ![qD c + 120, 0] := row_off (k0_off19_eq c) (by have : c.val < 8 := c.isLt; unfold qD; omega)

section Parts
variable (c : Dev nD)

/-- A program that returns at once. -/
theorem runs_ret {α : Type} {a : α} {Q : α → sProp (MT nD τ sig Unit (Elt F) ℕ UU ℕ)} : Q a ⊢ runs c (.ret a) Q := by
  unfold runs; rw [wp_ret]
  iintro H; imodintro; iexact H

omit [FloatOps F] in
/-- A receipt that is forwarded: half of it to forward, the other to copy. -/
theorem got_halves (i : Fin 18) : gotR m c i = iprop(semVal (recvCell c i) 0 ∗ half m c i ∗ kept m c i) := by
  unfold gotR; rw [recv_halves]

omit [FloatOps F] in
/-- A receipt that is only copied is what its copy reads. -/
theorem got_src (i : Fin 18) (j : Fin 7) (hj : j ≠ 0) (h₀ : cLo c j = rlo c i := by rfl) (h₁ : cLen j = len i := by rfl) (h₂ : cShare j = fullShare := by rfl) :
    gotR m c i = iprop(semVal (recvCell c i) 0 ∗ copySrc m c j) := by
  unfold gotR; rw [copySrc_received m c hj, h₀, h₁, h₂]; rfl

omit [FloatOps F] in
/-- A receipt that is forwarded twice. -/
theorem got_fork (i j k : Fin 18) (h : half m c i = iprop(sendPay m c j ∗ sendPay m c k)) :
    gotR m c i = iprop(semVal (recvCell c i) 0 ∗ (sendPay m c j ∗ sendPay m c k) ∗ kept m c i) := by
  rw [got_halves, h]

/-! ## The parts of the kernel -/

/-- Part 1 only computes: it finds out which device it runs on and names the barrier. -/
theorem part1 (Kt : _ → sProp (MT nD τ sig Unit (Elt F) ℕ UU ℕ)) :
    iprop(∀ v2 v5 v8 v9 v10 v11 v13 v17 v20 v23 v26, Kt ⟨c, v2, v5, v8, v9, v10, v11, v13, v17, v20, v23, v26, SemArray.scalar (sig.barrier 0 rfl)⟩)
      ⊢ runs c (k0_part1 (Memref.whole main_arg0) (Memref.isWhole_whole _) (Memref.whole main_v1) (Memref.isWhole_whole _) (Memref.whole cc0_scratch0) (Memref.isWhole_whole _)
      cc0_scratch1 cc0_scratch2 cc0_scratch3) Kt := by
  rw [k0_part1_eq_skeleton]; unfold k0_part1_skel
  simp only [Prog.lift, Prog.bind_op, Prog.bind_ret, Prog.pure_eq_ret, wp_deviceId]
  rw [wp_ret]
  iintro H
  imodintro
  iapply H

/-- Part 2: the barrier with the three neighbours. -/
theorem part2 (v2 v5 v8 v10 v11 v13 v17) (Kt : PUnit → sProp (MT nD τ sig Unit (Elt F) ℕ UU ℕ)) :
    iprop((ctx m K ∗ owesE (F := F) c (O₀ c) ∗ (dutyTok ER (barCell (nb 0 c)) 0 (0 : Fin 3) ∗ dutyTok ER (barCell (nb 1 c)) 0 (1 : Fin 3) ∗ dutyTok ER (barCell (nb 2 c)) 0 (2 : Fin 3))
          ∗ (bigSepL (inDir 0) (landing (F := F) c) ∗ bigSepL (inDir 1) (landing (F := F) c) ∗ bigSepL (inDir 2) (landing (F := F) c)) ∗ barR (F := F) c)
        ∗ ((owesE (F := F) c (owed c 0) ∗ semVal (barCell c) 0 ∗ barPay (F := F) c 0 ∗ barPay (F := F) c 1 ∗ barPay (F := F) c 2) -∗ Kt ⟨⟩))
      ⊢ runs c (k0_part2 (Memref.whole main_arg0) (Memref.isWhole_whole _) (Memref.whole main_v1) (Memref.isWhole_whole _) (Memref.whole cc0_scratch0) (Memref.isWhole_whole _)
      cc0_scratch1 cc0_scratch2 cc0_scratch3 c v2 v5 v8 v10 v11 v13 v17 (SemArray.scalar (sig.barrier 0 rfl))) Kt := by
  rw [k0_part2_eq_skeleton]; unfold k0_part2_skel
  simp only [semSignalWord, semWaitWord, Prog.lift, Prog.bind_op, Prog.bind_ret, Prog.pure_eq_ret]
  iintro ⟨⟨#Hctx, HO, ⟨Ht0, Ht1, Ht2⟩, ⟨Hl0, Hl1, Hl2⟩, HB⟩, Hk⟩
  iapply (step_signal m K 0 (dev_z c (k0_dev1_eq c)) (by decide) (O := O₂ c) rfl) $$ [$Hctx $HO $Ht0 $Hl0]
  iintro HO
  iapply (step_signal m K 1 (dev_x c (k0_dev2_eq c)) (by decide) (O := O₁ c) rfl) $$ [$Hctx $HO $Ht1 $Hl1]
  iintro HO
  iapply (step_signal m K 2 (dev_y c (k0_dev3_eq c)) (by decide) (O := owed c 0) rfl) $$ [$Hctx $HO $Ht2 $Hl2]
  iintro HO
  iapply (step_barrier m K (by decide) sendOrder (by decide)) $$ [HO HB]
  · isplitr; · iexact Hctx
    isplitl [HO]; · iexact HO
    iexact HB
  iintro H
  iapply (runs_ret c); iapply Hk; iexact H

/-- Part 3: transfers 0 and 1. -/
theorem part3 (v2 v5 v9) (Kt : PUnit → sProp (MT nD τ sig Unit (Elt F) ℕ UU ℕ)) :
    iprop((ctx m K ∗ owesE (F := F) c (owed c 0) ∗ (ready (F := F) c 0 ∗ sendPay m c 0) ∗ (ready (F := F) c 1 ∗ sendPay m c 1))
        ∗ ((owesE (F := F) c (owed c 2) ∗ sentR (F := F) c 0 ∗ sentR (F := F) c 1) -∗ Kt ⟨⟩))
      ⊢ runs c (k0_part3 (Memref.whole main_arg0) (Memref.isWhole_whole _) (Memref.whole main_v1) (Memref.isWhole_whole _) (Memref.whole cc0_scratch0) (Memref.isWhole_whole _)
      cc0_scratch1 cc0_scratch2 cc0_scratch3 c v2 v5 v9) Kt := by
  rw [k0_part3_eq_skeleton]; unfold k0_part3_skel
  simp only [Prog.lift, Prog.bind_op, Prog.bind_ret, Prog.pure_eq_ret]
  iintro ⟨⟨#Hctx, HO, H0, H1⟩, Hk⟩
  iapply (send_x m K 0 (by decide) 32 rfl (dev_z c (k0_dev4_eq c)) rfl rfl (k0_off1_eq c) 0) $$ [$Hctx $HO $H0]
  iintro ⟨HO, D0⟩
  iapply (send_x m K 1 (by decide) 64 rfl (dev_z c (k0_dev5_eq c)) rfl rfl (k0_off2_eq c) 1) $$ [$Hctx $HO $H1]
  iintro ⟨HO, D1⟩
  iapply (runs_ret c); iapply Hk
  iframe HO D0 D1

/-- Part 4: transfers 2, 3 and 4. -/
theorem part4 (v2 v5 v9 : BitVec 32) (Kt : PUnit → sProp (MT nD τ sig Unit (Elt F) ℕ UU ℕ)) :
    iprop((ctx m K ∗ owesE (F := F) c (owed c 2) ∗ (ready (F := F) c 2 ∗ sendPay m c 2) ∗ (ready (F := F) c 3 ∗ sendPay m c 3) ∗ (ready (F := F) c 4 ∗ sendPay m c 4))
        ∗ ((owesE (F := F) c (owed c 5) ∗ sentR (F := F) c 2 ∗ sentR (F := F) c 3 ∗ sentR (F := F) c 4) -∗ Kt ⟨⟩))
      ⊢ runs c (k0_part4 (Memref.whole main_arg0) (Memref.isWhole_whole _) (Memref.whole main_v1) (Memref.isWhole_whole _) (Memref.whole cc0_scratch0) (Memref.isWhole_whole _)
      cc0_scratch1 cc0_scratch2 cc0_scratch3 c v2 v5 v9) Kt := by
  rw [k0_part4_eq_skeleton]; unfold k0_part4_skel
  simp only [Prog.lift, Prog.bind_op, Prog.bind_ret, Prog.pure_eq_ret]
  iintro ⟨⟨#Hctx, HO, S2, S3, S4⟩, Hk⟩
  iapply (send_x m K 2 (by decide) 128 rfl (dev_z c (k0_dev6_eq c)) rfl rfl (off3a c) 2) $$ [$Hctx $HO $S2]
  iintro ⟨HO, D2⟩
  iapply (send_x m K 3 (by decide) 160 rfl (dev_z c (k0_dev7_eq c)) rfl rfl (k0_off4_eq c) 3) $$ [$Hctx $HO $S3]
  iintro ⟨HO, D3⟩
  iapply (send_x m K 4 (by decide) 128 rfl (dev_z c (k0_dev8_eq c)) rfl rfl (off3b c) 4) $$ [$Hctx $HO $S4]
  iintro ⟨HO, D4⟩
  iapply (runs_ret c); iapply Hk
  iframe HO D2 D3 D4

/-- Part 5: transfer 5, copy 0, receipt 0, and transfer 6 of what it brought. -/
theorem part5 (v2 v5 v8 v9 v10 v13 : BitVec 32) (Kt : BitVec 32 → sProp (MT nD τ sig Unit (Elt F) ℕ UU ℕ)) :
    iprop((ctx m K ∗ owesE (F := F) c (owed c 5) ∗ (ready (F := F) c 5 ∗ sendPay m c 5) ∗ (copyR (F := F) c 0 ∗ copySrc m c 0 ∗ outRaw (F := F) c 0)
          ∗ recvR (F := F) c 0 ∗ ready (F := F) c 6)
        ∗ (∀ a, (owesE (F := F) c (owed c 7) ∗ sentR (F := F) c 5 ∗ copyingR (F := F) c 0 ∗ semVal (recvCell c 0) 0 ∗ sendPay m c 11 ∗ kept m c 0
          ∗ sentR (F := F) c 6) -∗ Kt a))
      ⊢ runs c (k0_part5 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v10 v13) Kt := by
  rw [k0_part5_eq_skeleton]; unfold k0_part5_skel
  simp only [Prog.lift, Prog.bind_op, Prog.bind_ret, Prog.pure_eq_ret]
  iintro ⟨⟨#Hctx, HO, S5, C0, R0, S6⟩, Hk⟩
  iapply (send_x m K 5 (by decide) 272 rfl (dev_z c (k0_dev9_eq c)) rfl rfl (off5 c) 5) $$ [$Hctx $HO $S5]
  iintro ⟨HO, D5⟩
  iapply (copy_x m K rfl (k0_off6_eq c)) $$ [$Hctx $C0]
  iintro C0
  iapply (wait_recv m K 0 32 rfl rfl 6) $$ [$Hctx $HO $R0]
  rw [got_fork m c 0 6 11 (half_fork m c 0 6 11 (by decide) (by decide))]
  iintro ⟨HO, V0, ⟨P6, P11⟩, H0⟩
  iapply (send_c m K 6 (by decide) 32 rfl (dev_x c (k0_dev10_eq c)) rfl rfl (k0_off1_eq c) 6) $$ [$Hctx $HO $S6 $P6]
  iintro ⟨HO, D6⟩
  iapply (runs_ret c); iapply Hk
  iframe HO D5 C0 V0 P11 H0 D6

/-- Part 6: transfer 11, and receipt 1. -/
theorem part6 (v2 v5 v8 v9 v10 v11 v13 v161 : BitVec 32) (Kt : PUnit → sProp (MT nD τ sig Unit (Elt F) ℕ UU ℕ)) :
    iprop((ctx m K ∗ owesE (F := F) c (owed c 7) ∗ (ready (F := F) c 11 ∗ sendPay m c 11) ∗ recvR (F := F) c 1)
        ∗ ((owesE (F := F) c (owed c 8) ∗ sentR (F := F) c 11 ∗ gotR m c 1) -∗ Kt ⟨⟩))
      ⊢ runs c (k0_part6 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v10 v11 v13 v161) Kt := by
  rw [k0_part6_eq_skeleton]; unfold k0_part6_skel
  simp only [Prog.lift, Prog.bind_op, Prog.bind_ret, Prog.pure_eq_ret]
  iintro ⟨⟨#Hctx, HO, S11, R1⟩, Hk⟩
  iapply (send_c m K 11 (by decide) 32 rfl (dev_y c (k0_dev11_eq c)) rfl rfl (k0_off1_eq c) 7) $$ [$Hctx $HO $S11]
  iintro ⟨HO, D11⟩
  iapply (wait_recv m K 1 64 rfl rfl 8) $$ [$Hctx $HO $R1]
  iintro ⟨HO, G1⟩
  iapply (runs_ret c); iapply Hk
  iframe HO D11 G1

/-- Part 7: transfers 7 and 12, and receipt 2. -/
theorem part7 (v2 v5 v8 v9 v10 v11 v13 : BitVec 32) (Kt : PUnit → sProp (MT nD τ sig Unit (Elt F) ℕ UU ℕ)) :
    iprop((ctx m K ∗ owesE (F := F) c (owed c 8) ∗ (ready (F := F) c 7 ∗ sendPay m c 7) ∗ (ready (F := F) c 12 ∗ sendPay m c 12) ∗ recvR (F := F) c 2)
        ∗ ((owesE (F := F) c (owed c 10) ∗ sentR (F := F) c 7 ∗ sentR (F := F) c 12 ∗ gotR m c 2) -∗ Kt ⟨⟩))
      ⊢ runs c (k0_part7 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v10 v11 v13) Kt := by
  rw [k0_part7_eq_skeleton]; unfold k0_part7_skel
  simp only [Prog.lift, Prog.bind_op, Prog.bind_ret, Prog.pure_eq_ret]
  iintro ⟨⟨#Hctx, HO, S7, S12, R2⟩, Hk⟩
  iapply (send_c m K 7 (by decide) 64 rfl (dev_x c (k0_dev12_eq c)) rfl rfl (k0_off2_eq c) 8) $$ [$Hctx $HO $S7]
  iintro ⟨HO, D7⟩
  iapply (send_c m K 12 (by decide) 64 rfl (dev_y c (k0_dev13_eq c)) rfl rfl (k0_off2_eq c) 9) $$ [$Hctx $HO $S12]
  iintro ⟨HO, D12⟩
  iapply (wait_recv m K 2 128 rfl rfl 10) $$ [$Hctx $HO $R2]
  iintro ⟨HO, G2⟩
  iapply (runs_ret c); iapply Hk
  iframe HO D7 D12 G2

/-- Part 8: transfers 8 and 13, and receipt 3. -/
theorem part8 (v2 v5 v8 v9 v10 v11 v13 : BitVec 32) (Kt : (Σ' (_ : BitVec 32), BitVec 32) → sProp (MT nD τ sig Unit (Elt F) ℕ UU ℕ)) :
    iprop((ctx m K ∗ owesE (F := F) c (owed c 10) ∗ (ready (F := F) c 8 ∗ sendPay m c 8) ∗ (ready (F := F) c 13 ∗ sendPay m c 13) ∗ recvR (F := F) c 3)
        ∗ (∀ a, (owesE (F := F) c (owed c 12) ∗ sentR (F := F) c 8 ∗ sentR (F := F) c 13 ∗ gotR m c 3) -∗ Kt a))
      ⊢ runs c (k0_part8 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v10 v11 v13) Kt := by
  rw [k0_part8_eq_skeleton]; unfold k0_part8_skel
  simp only [Prog.lift, Prog.bind_op, Prog.bind_ret, Prog.pure_eq_ret]
  iintro ⟨⟨#Hctx, HO, S8, S13, R3⟩, Hk⟩
  iapply (send_c m K 8 (by decide) 128 rfl (dev_x c (k0_dev14_eq c)) rfl rfl (off3a c) 10) $$ [$Hctx $HO $S8]
  iintro ⟨HO, D8⟩
  iapply (send_c m K 13 (by decide) 128 rfl (dev_y c (k0_dev15_eq c)) rfl rfl (off3a c) 11) $$ [$Hctx $HO $S13]
  iintro ⟨HO, D13⟩
  iapply (wait_recv m K 3 160 rfl rfl 12) $$ [$Hctx $HO $R3]
  iintro ⟨HO, G3⟩
  iapply (runs_ret c); iapply Hk
  iframe HO D8 D13 G3

/-- Part 9: transfers 9 and 14, and receipt 4. -/
theorem part9 (v2 v5 v8 v9 v10 v11 v13 v260 w : BitVec 32) (Kt : (Σ' (_ : BitVec 32), BitVec 32) → sProp (MT nD τ sig Unit (Elt F) ℕ UU ℕ)) :
    iprop((ctx m K ∗ owesE (F := F) c (owed c 12) ∗ (ready (F := F) c 9 ∗ sendPay m c 9) ∗ (ready (F := F) c 14 ∗ sendPay m c 14) ∗ recvR (F := F) c 4)
        ∗ (∀ a, (owesE (F := F) c (owed c 14) ∗ sentR (F := F) c 9 ∗ sentR (F := F) c 14 ∗ gotR m c 4) -∗ Kt a))
      ⊢ runs c (k0_part9 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v10 v11 v13 v260 w) Kt := by
  rw [k0_part9_eq_skeleton]; unfold k0_part9_skel
  simp only [Prog.lift, Prog.bind_op, Prog.bind_ret, Prog.pure_eq_ret]
  iintro ⟨⟨#Hctx, HO, S9, S14, R4⟩, Hk⟩
  iapply (send_c m K 9 (by decide) 160 rfl (dev_x c (k0_dev16_eq c)) rfl rfl (k0_off4_eq c) 12) $$ [$Hctx $HO $S9]
  iintro ⟨HO, D9⟩
  iapply (send_c m K 14 (by decide) 160 rfl (dev_y c (k0_dev17_eq c)) rfl rfl (k0_off4_eq c) 13) $$ [$Hctx $HO $S14]
  iintro ⟨HO, D14⟩
  iapply (wait_recv m K 4 128 rfl rfl 14) $$ [$Hctx $HO $R4]
  iintro ⟨HO, G4⟩
  iapply (runs_ret c); iapply Hk
  iframe HO D9 D14 G4

/-- Part 10: transfers 10 and 15, and copy 1. -/
theorem part10 (v2 v5 v8 v10 v11 v13 v26 v293 w : BitVec 32) (Kt : PUnit → sProp (MT nD τ sig Unit (Elt F) ℕ UU ℕ)) :
    iprop((ctx m K ∗ owesE (F := F) c (owed c 14) ∗ (ready (F := F) c 10 ∗ sendPay m c 10) ∗ (ready (F := F) c 15 ∗ sendPay m c 15) ∗ (copyR (F := F) c 1 ∗ copySrc m c 1 ∗ outRaw (F := F) c 1))
        ∗ ((owesE (F := F) c (owed c 16) ∗ sentR (F := F) c 10 ∗ sentR (F := F) c 15 ∗ copyingR (F := F) c 1) -∗ Kt ⟨⟩))
      ⊢ runs c (k0_part10 (Memref.whole main_arg0) (Memref.isWhole_whole _) (Memref.whole main_v1) (Memref.isWhole_whole _) (Memref.whole cc0_scratch0) (Memref.isWhole_whole _)
      cc0_scratch1 cc0_scratch2 cc0_scratch3 c v2 v5 v8 v10 v11 v13 v26 v293 w) Kt := by
  rw [k0_part10_eq_skeleton]; unfold k0_part10_skel
  simp only [Prog.lift, Prog.bind_op, Prog.bind_ret, Prog.pure_eq_ret]
  iintro ⟨⟨#Hctx, HO, S10, S15, C1⟩, Hk⟩
  iapply (send_c m K 10 (by decide) 128 rfl (dev_x c (k0_dev18_eq c)) rfl rfl (off3b c) 14) $$ [$Hctx $HO $S10]
  iintro ⟨HO, D10⟩
  iapply (send_c m K 15 (by decide) 128 rfl (dev_y c (k0_dev19_eq c)) rfl rfl (off3b c) 15) $$ [$Hctx $HO $S15]
  iintro ⟨HO, D15⟩
  iapply (copy_c m K 1 (by decide) 512 rfl rfl (k0_off8_eq c) (off7 c)) $$ [$Hctx $C1]
  iintro C1
  iapply (runs_ret c); iapply Hk
  iframe HO D10 D15 C1

/-- Part 11: receipts 6, 7 and 8. -/
theorem part11 (v2 v5 v8 v10 v11 v20 : BitVec 32) (Kt : PUnit → sProp (MT nD τ sig Unit (Elt F) ℕ UU ℕ)) :
    iprop((ctx m K ∗ owesE (F := F) c (owed c 16) ∗ recvR (F := F) c 6 ∗ recvR (F := F) c 7 ∗ recvR (F := F) c 8)
        ∗ ((owesE (F := F) c (owed c 16) ∗ gotR m c 6 ∗ gotR m c 7 ∗ gotR m c 8) -∗ Kt ⟨⟩))
      ⊢ runs c (k0_part11 (Memref.whole main_arg0) (Memref.isWhole_whole _) (Memref.whole main_v1) (Memref.isWhole_whole _) (Memref.whole cc0_scratch0) (Memref.isWhole_whole _)
      cc0_scratch1 cc0_scratch2 cc0_scratch3 c v2 v5 v8 v10 v11 v20) Kt := by
  rw [k0_part11_eq_skeleton]; unfold k0_part11_skel
  simp only [Prog.lift, Prog.bind_op, Prog.bind_ret, Prog.pure_eq_ret]
  iintro ⟨⟨#Hctx, HO, R6, R7, R8⟩, Hk⟩
  iapply (wait_recv m K 6 32 rfl rfl 16) $$ [$Hctx $HO $R6]
  iintro ⟨HO, G6⟩
  iapply (wait_recv m K 7 64 rfl rfl 16) $$ [$Hctx $HO $R7]
  iintro ⟨HO, G7⟩
  iapply (wait_recv m K 8 128 rfl rfl 16) $$ [$Hctx $HO $R8]
  iintro ⟨HO, G8⟩
  iapply (runs_ret c); iapply Hk
  iframe HO G6 G7 G8

/-- Part 12: transfer 16, and receipts 13 and 14. -/
theorem part12 (v2 v5 v8 v10 v11 v23 : BitVec 32) (Kt : (Σ' (_ : BitVec 32), BitVec 32) → sProp (MT nD τ sig Unit (Elt F) ℕ UU ℕ)) :
    iprop((ctx m K ∗ owesE (F := F) c (owed c 16) ∗ (ready (F := F) c 16 ∗ sendPay m c 16) ∗ recvR (F := F) c 13 ∗ recvR (F := F) c 14)
        ∗ (∀ a, (owesE (F := F) c (owed c 17) ∗ sentR (F := F) c 16 ∗ gotR m c 13 ∗ gotR m c 14) -∗ Kt a))
      ⊢ runs c (k0_part12 (Memref.whole main_arg0) (Memref.isWhole_whole _) (Memref.whole main_v1) (Memref.isWhole_whole _) (Memref.whole cc0_scratch0) (Memref.isWhole_whole _)
      cc0_scratch1 cc0_scratch2 cc0_scratch3 c v2 v5 v8 v10 v11 v23) Kt := by
  rw [k0_part12_eq_skeleton]; unfold k0_part12_skel
  simp only [Prog.lift, Prog.bind_op, Prog.bind_ret, Prog.pure_eq_ret]
  iintro ⟨⟨#Hctx, HO, S16, R13, R14⟩, Hk⟩
  iapply (send_c m K 16 (by decide) 120 rfl (dev_y c (k0_dev20_eq c)) rfl rfl (off9 c) 16) $$ [$Hctx $HO $S16]
  iintro ⟨HO, D16⟩
  iapply (wait_recv m K 13 128 rfl rfl 17) $$ [$Hctx $HO $R13]
  iintro ⟨HO, G13⟩
  iapply (wait_recv m K 14 160 rfl rfl 17) $$ [$Hctx $HO $R14]
  iintro ⟨HO, G14⟩
  iapply (runs_ret c); iapply Hk
  iframe HO D16 G13 G14

/-- Part 13: transfer 17, receipts 9 and 10, and copy 2 of the whole part that came from the neighbour in `x`. -/
theorem part13 (v5 v8 v10 v20 v26 v391 w : BitVec 32) (Kt : PUnit → sProp (MT nD τ sig Unit (Elt F) ℕ UU ℕ)) :
    iprop((ctx m K ∗ owesE (F := F) c (owed c 17) ∗ (ready (F := F) c 17 ∗ sendPay m c 17) ∗ recvR (F := F) c 9 ∗ recvR (F := F) c 10
          ∗ (kept m c 6 ∗ kept m c 7 ∗ kept m c 8) ∗ copyR (F := F) c 2 ∗ outRaw (F := F) c 2)
        ∗ ((owesE (F := F) c (owed c 18) ∗ sentR (F := F) c 17 ∗ (semVal (recvCell c 9) 0 ∗ half m c 9) ∗ (semVal (recvCell c 10) 0 ∗ half m c 10)
          ∗ copyingR (F := F) c 2) -∗ Kt ⟨⟩))
      ⊢ runs c (k0_part13 (Memref.whole main_arg0) (Memref.isWhole_whole _) (Memref.whole main_v1) (Memref.isWhole_whole _) (Memref.whole cc0_scratch0) (Memref.isWhole_whole _)
      cc0_scratch1 cc0_scratch2 cc0_scratch3 c v5 v8 v10 v20 v26 v391 w) Kt := by
  rw [k0_part13_eq_skeleton]; unfold k0_part13_skel
  simp only [Prog.lift, Prog.bind_op, Prog.bind_ret, Prog.pure_eq_ret]
  iintro ⟨⟨#Hctx, HO, S17, R9, R10, ⟨H6, H7, H8⟩, C2, O2⟩, Hk⟩
  iapply (send_c m K 17 (by decide) 120 rfl (dev_x c (k0_dev21_eq c)) rfl rfl (off10 c) 17) $$ [$Hctx $HO $S17]
  iintro ⟨HO, D17⟩
  iapply (wait_recv m K 9 160 rfl rfl 18) $$ [$Hctx $HO $R9]
  rw [got_halves]
  iintro ⟨HO, V9, L9, H9⟩
  iapply (wait_recv m K 10 128 rfl rfl 18) $$ [$Hctx $HO $R10]
  rw [got_halves]
  iintro ⟨HO, V10, L10, H10⟩
  iapply (copy_c m K 2 (by decide) 512 rfl rfl (off12 c) (off11 c)) $$ [$Hctx $C2 $O2 H6 H7 H8 H9 H10]
  · rw [← kept_x m c]; iframe H6 H7 H8 H9 H10
  iintro C2
  iapply (runs_ret c); iapply Hk
  iframe HO D17 V9 L9 V10 L10 C2

/-- Part 14: receipts 11, 12 and 15. -/
theorem part14 (v2 v8 v11 v23 v26 : BitVec 32) (Kt : PUnit → sProp (MT nD τ sig Unit (Elt F) ℕ UU ℕ)) :
    iprop((ctx m K ∗ owesE (F := F) c (owed c 18) ∗ recvR (F := F) c 11 ∗ recvR (F := F) c 12 ∗ recvR (F := F) c 15)
        ∗ ((owesE (F := F) c (owed c 18) ∗ gotR m c 11 ∗ gotR m c 12 ∗ gotR m c 15) -∗ Kt ⟨⟩))
      ⊢ runs c (k0_part14 (Memref.whole main_arg0) (Memref.isWhole_whole _) (Memref.whole main_v1) (Memref.isWhole_whole _) (Memref.whole cc0_scratch0) (Memref.isWhole_whole _)
      cc0_scratch1 cc0_scratch2 cc0_scratch3 c v2 v8 v11 v23 v26) Kt := by
  rw [k0_part14_eq_skeleton]; unfold k0_part14_skel
  simp only [Prog.lift, Prog.bind_op, Prog.bind_ret, Prog.pure_eq_ret]
  iintro ⟨⟨#Hctx, HO, R11, R12, R15⟩, Hk⟩
  iapply (wait_recv m K 11 32 rfl rfl 18) $$ [$Hctx $HO $R11]
  iintro ⟨HO, G11⟩
  iapply (wait_recv m K 12 64 rfl rfl 18) $$ [$Hctx $HO $R12]
  iintro ⟨HO, G12⟩
  iapply (wait_recv m K 15 128 rfl rfl 18) $$ [$Hctx $HO $R15]
  iintro ⟨HO, G15⟩
  iapply (runs_ret c); iapply Hk
  iframe HO G11 G12 G15

/-- Part 15: copy 3, receipt 5, and its copy. -/
theorem part15 (v2 v5 v8 v9 v11 v17 v26 : BitVec 32) (Kt : PUnit → sProp (MT nD τ sig Unit (Elt F) ℕ UU ℕ)) :
    iprop((ctx m K ∗ owesE (F := F) c (owed c 18) ∗ (copyR (F := F) c 3 ∗ copySrc m c 3 ∗ outRaw (F := F) c 3) ∗ recvR (F := F) c 5
          ∗ copyR (F := F) c 4 ∗ outRaw (F := F) c 4)
        ∗ ((owesE (F := F) c (owed c 18) ∗ copyingR (F := F) c 3 ∗ semVal (recvCell c 5) 0 ∗ copyingR (F := F) c 4) -∗ Kt ⟨⟩))
      ⊢ runs c (k0_part15 (Memref.whole main_arg0) (Memref.isWhole_whole _) (Memref.whole main_v1) (Memref.isWhole_whole _) (Memref.whole cc0_scratch0) (Memref.isWhole_whole _)
      cc0_scratch1 cc0_scratch2 cc0_scratch3 c v2 v5 v8 v9 v11 v17 v26) Kt := by
  rw [k0_part15_eq_skeleton]; unfold k0_part15_skel
  simp only [Prog.lift, Prog.bind_op, Prog.bind_ret, Prog.pure_eq_ret]
  iintro ⟨⟨#Hctx, HO, C3, R5, C4, O4⟩, Hk⟩
  iapply (copy_c m K 3 (by decide) 512 rfl rfl (off14 c) (off13 c)) $$ [$Hctx $C3]
  iintro C3
  iapply (wait_recv m K 5 272 rfl rfl 18) $$ [$Hctx $HO $R5]
  rw [got_src m c 5 4 (by decide)]
  iintro ⟨HO, V5, P⟩
  iapply (copy_c m K 4 (by decide) 272 rfl rfl (off5 c) (off15 c)) $$ [$Hctx $C4 $P $O4]
  iintro C4
  iapply (runs_ret c); iapply Hk
  iframe HO C3 V5 C4

/-- Part 16: receipts 16 and 17 with their copies, and the departure of transfer 0. -/
theorem part16 (v5 v8 v10 v17 v26 : BitVec 32) (Kt : PUnit → sProp (MT nD τ sig Unit (Elt F) ℕ UU ℕ)) :
    iprop((ctx m K ∗ owesE (F := F) c (owed c 18) ∗ (recvR (F := F) c 16 ∗ copyR (F := F) c 5 ∗ outRaw (F := F) c 5)
          ∗ (recvR (F := F) c 17 ∗ copyR (F := F) c 6 ∗ outRaw (F := F) c 6) ∗ sentR (F := F) c 0)
        ∗ ((owesE (F := F) c (owed c 18) ∗ (semVal (recvCell c 16) 0 ∗ copyingR (F := F) c 5) ∗ (semVal (recvCell c 17) 0 ∗ copyingR (F := F) c 6)
          ∗ leftR m c 0) -∗ Kt ⟨⟩))
      ⊢ runs c (k0_part16 (Memref.whole main_arg0) (Memref.isWhole_whole _) (Memref.whole main_v1) (Memref.isWhole_whole _) (Memref.whole cc0_scratch0) (Memref.isWhole_whole _)
      cc0_scratch1 cc0_scratch2 cc0_scratch3 c v5 v8 v10 v17 v26) Kt := by
  rw [k0_part16_eq_skeleton]; unfold k0_part16_skel
  simp only [Prog.lift, Prog.bind_op, Prog.bind_ret, Prog.pure_eq_ret]
  iintro ⟨⟨#Hctx, HO, ⟨R16, C5, O5⟩, ⟨R17, C6, O6⟩, D0⟩, Hk⟩
  iapply (wait_recv m K 16 120 rfl rfl 18) $$ [$Hctx $HO $R16]
  rw [got_src m c 16 5 (by decide)]
  iintro ⟨HO, V16, P⟩
  iapply (copy_c m K 5 (by decide) 120 rfl rfl (off17 c) (off16 c)) $$ [$Hctx $C5 $P $O5]
  iintro C5
  iapply (wait_recv m K 17 120 rfl rfl 18) $$ [$Hctx $HO $R17]
  rw [got_src m c 17 6 (by decide)]
  iintro ⟨HO, V17, P⟩
  iapply (copy_c m K 6 (by decide) 120 rfl rfl (off19 c) (off18 c)) $$ [$Hctx $C6 $P $O6]
  iintro C6
  iapply (wait_sent_x m K 0 32 rfl rfl) $$ [$Hctx $HO $D0]
  iintro ⟨HO, B0⟩
  iapply (runs_ret c); iapply Hk
  iframe HO V16 C5 V17 C6 B0

/-- Part 17: the departures of transfers 1 to 6. -/
theorem part17 (Kt : PUnit → sProp (MT nD τ sig Unit (Elt F) ℕ UU ℕ)) :
    iprop((ctx m K ∗ owesE (F := F) c (owed c 18) ∗ sentR (F := F) c 1 ∗ sentR (F := F) c 2 ∗ sentR (F := F) c 3 ∗ sentR (F := F) c 4 ∗ sentR (F := F) c 5 ∗ sentR (F := F) c 6)
        ∗ ((owesE (F := F) c (owed c 18) ∗ leftR m c 1 ∗ leftR m c 2 ∗ leftR m c 3 ∗ leftR m c 4 ∗ leftR m c 5 ∗ leftR m c 6) -∗ Kt ⟨⟩))
      ⊢ runs c (k0_part17 (Memref.whole main_arg0) (Memref.isWhole_whole _) (Memref.whole main_v1) (Memref.isWhole_whole _) (Memref.whole cc0_scratch0) (Memref.isWhole_whole _)
      cc0_scratch1 cc0_scratch2 cc0_scratch3 c) Kt := by
  rw [k0_part17_eq_skeleton]; unfold k0_part17_skel
  simp only [Prog.lift, Prog.bind_op, Prog.bind_ret, Prog.pure_eq_ret]
  iintro ⟨⟨#Hctx, HO, D1, D2, D3, D4, D5, D6⟩, Hk⟩
  iapply (wait_sent_x m K 1 64 rfl rfl) $$ [$Hctx $HO $D1]
  iintro ⟨HO, B1⟩
  iapply (wait_sent_x m K 2 128 rfl rfl) $$ [$Hctx $HO $D2]
  iintro ⟨HO, B2⟩
  iapply (wait_sent_x m K 3 160 rfl rfl) $$ [$Hctx $HO $D3]
  iintro ⟨HO, B3⟩
  iapply (wait_sent_x m K 4 128 rfl rfl) $$ [$Hctx $HO $D4]
  iintro ⟨HO, B4⟩
  iapply (wait_sent_x m K 5 272 rfl rfl) $$ [$Hctx $HO $D5]
  iintro ⟨HO, B5⟩
  iapply (wait_sent_c m K 6 32 rfl rfl) $$ [$Hctx $HO $D6]
  iintro ⟨HO, B6⟩
  iapply (runs_ret c); iapply Hk
  iframe HO B1 B2 B3 B4 B5 B6

/-- Part 18: the departures of transfers 7 to 12. -/
theorem part18 (Kt : PUnit → sProp (MT nD τ sig Unit (Elt F) ℕ UU ℕ)) :
    iprop((ctx m K ∗ owesE (F := F) c (owed c 18) ∗ sentR (F := F) c 7 ∗ sentR (F := F) c 8 ∗ sentR (F := F) c 9 ∗ sentR (F := F) c 10 ∗ sentR (F := F) c 11 ∗ sentR (F := F) c 12)
        ∗ ((owesE (F := F) c (owed c 18) ∗ leftR m c 7 ∗ leftR m c 8 ∗ leftR m c 9 ∗ leftR m c 10 ∗ leftR m c 11 ∗ leftR m c 12) -∗ Kt ⟨⟩))
      ⊢ runs c (k0_part18 (Memref.whole main_arg0) (Memref.isWhole_whole _) (Memref.whole main_v1) (Memref.isWhole_whole _) (Memref.whole cc0_scratch0) (Memref.isWhole_whole _)
      cc0_scratch1 cc0_scratch2 cc0_scratch3 c) Kt := by
  rw [k0_part18_eq_skeleton]; unfold k0_part18_skel
  simp only [Prog.lift, Prog.bind_op, Prog.bind_ret, Prog.pure_eq_ret]
  iintro ⟨⟨#Hctx, HO, D7, D8, D9, D10, D11, D12⟩, Hk⟩
  iapply (wait_sent_c m K 7 64 rfl rfl) $$ [$Hctx $HO $D7]
  iintro ⟨HO, B7⟩
  iapply (wait_sent_c m K 8 128 rfl rfl) $$ [$Hctx $HO $D8]
  iintro ⟨HO, B8⟩
  iapply (wait_sent_c m K 9 160 rfl rfl) $$ [$Hctx $HO $D9]
  iintro ⟨HO, B9⟩
  iapply (wait_sent_c m K 10 128 rfl rfl) $$ [$Hctx $HO $D10]
  iintro ⟨HO, B10⟩
  iapply (wait_sent_c m K 11 32 rfl rfl) $$ [$Hctx $HO $D11]
  iintro ⟨HO, B11⟩
  iapply (wait_sent_c m K 12 64 rfl rfl) $$ [$Hctx $HO $D12]
  iintro ⟨HO, B12⟩
  iapply (runs_ret c); iapply Hk
  iframe HO B7 B8 B9 B10 B11 B12

/-- Part 19: the departures of the last transfers, and the ends of copies 0 and 1. -/
theorem part19 (Kt : PUnit → sProp (MT nD τ sig Unit (Elt F) ℕ UU ℕ)) :
    iprop((ctx m K ∗ owesE (F := F) c (owed c 18) ∗ sentR (F := F) c 13 ∗ sentR (F := F) c 14 ∗ sentR (F := F) c 15 ∗ sentR (F := F) c 17 ∗ sentR (F := F) c 16 ∗ copyingR (F := F) c 0 ∗ copyingR (F := F) c 1)
        ∗ ((owesE (F := F) c (owed c 18) ∗ leftR m c 13 ∗ leftR m c 14 ∗ leftR m c 15 ∗ leftR m c 17 ∗ leftR m c 16 ∗ copiedR m c 0 ∗ copiedR m c 1) -∗ Kt ⟨⟩))
      ⊢ runs c (k0_part19 (Memref.whole main_arg0) (Memref.isWhole_whole _) (Memref.whole main_v1) (Memref.isWhole_whole _) (Memref.whole cc0_scratch0) (Memref.isWhole_whole _)
      cc0_scratch1 cc0_scratch2 cc0_scratch3 c) Kt := by
  rw [k0_part19_eq_skeleton]; unfold k0_part19_skel
  simp only [Prog.lift, Prog.bind_op, Prog.bind_ret, Prog.pure_eq_ret]
  iintro ⟨⟨#Hctx, HO, D13, D14, D15, D17, D16, C0, C1⟩, Hk⟩
  iapply (wait_sent_c m K 13 128 rfl rfl) $$ [$Hctx $HO $D13]
  iintro ⟨HO, B13⟩
  iapply (wait_sent_c m K 14 160 rfl rfl) $$ [$Hctx $HO $D14]
  iintro ⟨HO, B14⟩
  iapply (wait_sent_c m K 15 128 rfl rfl) $$ [$Hctx $HO $D15]
  iintro ⟨HO, B15⟩
  iapply (wait_sent_c m K 17 120 rfl rfl) $$ [$Hctx $HO $D17]
  iintro ⟨HO, B17⟩
  iapply (wait_sent_c m K 16 120 rfl rfl) $$ [$Hctx $HO $D16]
  iintro ⟨HO, B16⟩
  iapply (wait_copied m K 0 2048 rfl rfl) $$ [$Hctx $HO $C0]
  iintro ⟨HO, E0⟩
  iapply (wait_copied m K 1 512 rfl rfl) $$ [$Hctx $HO $C1]
  iintro ⟨HO, E1⟩
  iapply (runs_ret c); iapply Hk
  iframe HO B13 B14 B15 B17 B16 E0 E1

end Parts

end Cert.GatherProof

end
-- ==== Proof.Whole.lean ====
/- One device's whole run: what it starts with and what it ends with. -/
module

public import proofs.«01_k».proof.Proof.Body

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

omit [FloatOps F] in
/-- The separating conjunction over the transfers, and over the copies, written out. -/
theorem sep_transfers (P : Fin 18 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17) := by
  rw [bigSep_univ_eq_bigSepL [0, 1, 2, 3, 4, 5, 6, 7, 8, 9, 10, 11, 12, 13, 14, 15, 16, 17] (by decide) (by decide)]
  simp only [bigSepL_cons_cons, bigSepL_singleton]
  rfl

omit [FloatOps F] in
theorem sep_copies (P : Fin 7 → sProp 𝕄) : bigSep Finset.univ P = iprop(P 0 ∗ P 1 ∗ P 2 ∗ P 3 ∗ P 4 ∗ P 5 ∗ P 6) := by
  rw [bigSep_univ_eq_bigSepL [0, 1, 2, 3, 4, 5, 6] (by decide) (by decide)]
  simp only [bigSepL_cons_cons, bigSepL_singleton]
  rfl

omit [FloatOps F] in
theorem sep_list_congr {I : Type} {Φ Ψ : I → sProp 𝕄} : ∀ (l : List I), (∀ i ∈ l, Φ i = Ψ i) → bigSepL l Φ = bigSepL l Ψ
  | [], _ => rfl
  | [i], h => h i (List.mem_singleton.mpr rfl)
  | i :: j :: l, h => by
    rw [bigSepL_cons_cons, bigSepL_cons_cons, h i List.mem_cons_self, sep_list_congr (j :: l) fun k hk => h k (List.mem_cons_of_mem i hk)]

/-- What a device starts with. -/
def startR (c : Dev nD) : sProp 𝕄 :=
  iprop(ctx m K ∗ owesE (F := F) c (O₀ c)
    ∗ (dutyTok ER (barCell (nb 0 c)) 0 (0 : Fin 3) ∗ dutyTok ER (barCell (nb 1 c)) 0 (1 : Fin 3) ∗ dutyTok ER (barCell (nb 2 c)) 0 (2 : Fin 3))
    ∗ barR (F := F) c ∗ bigSep Finset.univ (sendR (F := F) c) ∗ bigSep Finset.univ (recvR (F := F) c) ∗ bigSep Finset.univ (copyR (F := F) c)
    ∗ ((c : Thread nD τ).loc main_arg0 ↦{fullShare} xOf m c) ∗ (∃ f, (c : Thread nD τ).loc main_v1 ↦{fullShare} f)
    ∗ (∃ f, (c : Thread nD τ).loc cc0_scratch0 ↦{fullShare} f))

/-- Every counter of a device at zero. -/
def quietR (c : Dev nD) : sProp 𝕄 :=
  iprop(semVal (barCell c) 0 ∗ bigSep Finset.univ (fun i => semVal (sendCell c i) 0) ∗ bigSep Finset.univ (fun i => semVal (recvCell c i) 0)
    ∗ bigSep Finset.univ (fun j => semVal (copyCell c j) 0))

/-- What a device ends with: nothing owed, every counter back at zero, the block unchanged, and the whole array in the result. -/
def endR (c : Dev nD) : sProp 𝕄 :=
  iprop(owesE (F := F) c 0 ∗ quietR (F := F) c
    ∗ ((c : Thread nD τ).loc main_arg0 ↦{fullShare} xOf m c) ∗ ((c : Thread nD τ).loc main_v1 ↦{fullShare} outF m c)
    ∗ ((c : Thread nD τ).loc cc0_scratch0 ↦{fullShare} fin m c))

section Whole
variable (c : Dev nD)

omit [FloatOps F] in
/-- The barrier makes every transfer ready: it tells where each lands. -/
theorem all_ready : iprop(bigSep Finset.univ (sendR (F := F) c) ∗ barPay (F := F) c 0 ∗ barPay (F := F) c 1 ∗ barPay (F := F) c 2)
    ⊢ iprop(ready (F := F) c 0 ∗ ready (F := F) c 1 ∗ ready (F := F) c 2 ∗ ready (F := F) c 3 ∗ ready (F := F) c 4 ∗ ready (F := F) c 5 ∗ ready (F := F) c 6 ∗ ready (F := F) c 7 ∗ ready (F := F) c 8 ∗ ready (F := F) c 9 ∗ ready (F := F) c 10 ∗ ready (F := F) c 11 ∗ ready (F := F) c 12 ∗ ready (F := F) c 13 ∗ ready (F := F) c 14 ∗ ready (F := F) c 15 ∗ ready (F := F) c 16 ∗ ready (F := F) c 17) := by
  rw [sep_transfers]
  have hd : ∀ (d : Fin 3), ∀ i ∈ inDir d, dir i = d := by decide
  have hp : ∀ d : Fin 3, barPay (F := F) c d = bigSepL (inDir d) fun i => landing (F := F) (peer c i) i := fun d => by
    unfold barPay peer
    exact sep_list_congr (inDir d) fun i hi => by rw [hd d i hi]
  rw [hp, hp, hp]
  unfold inDir ready
  simp only [Matrix.cons_val_zero, Matrix.cons_val_one, Matrix.cons_val_two, Matrix.head_cons, Matrix.tail_cons]
  rw [bigSepL_six, bigSepL_six, bigSepL_six]
  iintro ⟨⟨T0, T1, T2, T3, T4, T5, T6, T7, T8, T9, T10, T11, T12, T13, T14, T15, T16, T17⟩, ⟨L0, L1, L2, L3, L4, L5⟩, ⟨L6, L7, L8, L9, L10, L17⟩, ⟨L11, L12, L13, L14, L15, L16⟩⟩
  iframe

omit [FloatOps F] in
/-- The result's rows, as the copies take them. -/
theorem out_raw : (∃ f, (c : Thread nD τ).loc main_v1 ↦{fullShare} f : sProp 𝕄)
    ⊢ iprop(outRaw (F := F) c 0 ∗ outRaw (F := F) c 1 ∗ outRaw (F := F) c 2 ∗ outRaw (F := F) c 3 ∗ outRaw (F := F) c 4 ∗ outRaw (F := F) c 5 ∗ outRaw (F := F) c 6) := by
  iintro ⟨%f, H⟩
  ihave H := (BIBase.Entails.of_eq (out_pieces c f)) $$ H
  unfold outRaw
  icases H with ⟨H0, H1, H2, H3, H4, H5, H6⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iexists f; iexact H6

omit [FloatOps F] in
/-- Everything the waits hand out, together again. -/
theorem all_back : iprop(owesE (F := F) c (owed c 18) ∗ semVal (barCell c) 0 ∗ xRest m c
      ∗ bigSep Finset.univ (fun i => semVal (recvCell c i) 0) ∗ bigSep Finset.univ (leftR m c) ∗ bigSep Finset.univ (copiedR m c)
      ∗ besideX m c ∗ besideY m c ∗ half m c 9 ∗ half m c 10 ∗ half m c 11 ∗ half m c 12 ∗ half m c 15)
    ⊢ endR m c := by
  unfold endR quietR
  rw [x_pieces m c, out_pieces c (outF m c), sep_transfers (leftR m c), sep_transfers (fun i => semVal (sendCell c i) 0),
    sep_copies (copiedR m c), sep_copies (fun j => semVal (copyCell c j) 0)]
  unfold leftR copiedR copyPay outPts
  iintro ⟨HO, V, HX, HR, ⟨⟨U0, P0⟩, ⟨U1, P1⟩, ⟨U2, P2⟩, ⟨U3, P3⟩, ⟨U4, P4⟩, ⟨U5, P5⟩, ⟨U6, P6⟩, ⟨U7, P7⟩, ⟨U8, P8⟩, ⟨U9, P9⟩, ⟨U10, P10⟩, ⟨U11, P11⟩, ⟨U12, P12⟩, ⟨U13, P13⟩, ⟨U14, P14⟩, ⟨U15, P15⟩, ⟨U16, P16⟩, ⟨U17, P17⟩⟩, ⟨⟨W0, C0, O0⟩, ⟨W1, C1, O1⟩, ⟨W2, C2, O2⟩, ⟨W3, C3, O3⟩, ⟨W4, C4, O4⟩, ⟨W5, C5, O5⟩, ⟨W6, C6, O6⟩⟩,
    BX, BY, L9, L10, L11, L12, L15⟩
  isplitl [HO]; · iexact HO
  isplitl [V HR U0 U1 U2 U3 U4 U5 U6 U7 U8 U9 U10 U11 U12 U13 U14 U15 U16 U17 W0 W1 W2 W3 W4 W5 W6]
  · iframe V HR U0 U1 U2 U3 U4 U5 U6 U7 U8 U9 U10 U11 U12 U13 U14 U15 U16 U17 W0 W1 W2 W3 W4 W5 W6
  isplitl [HX C0 P0 P1 P2 P3 P4 P5]
  · iframe C0 HX P0 P1 P2 P3 P4 P5
  isplitl [O0 O1 O2 O3 O4 O5 O6]
  · iframe O0 O1 O2 O3 O4 O5 O6
  iapply (comm_pieces m c)
  iframe P6 P7 P8 P9 P10 P11 P12 P13 P14 P15 P16 P17 C1 C2 C3 C4 C5 C6 BX BY L9 L10 L11 L12 L15

/-- A program in two steps. -/
theorem runs_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : runs c (p >>= k) Q = runs c p (fun a => runs c (k a) Q) := wp_bind ..

set_option maxHeartbeats 1000000 in
/-- One device's run. -/
theorem body_run (Q : PUnit → sProp (MT nD τ sig Unit (Elt F) ℕ UU ℕ)) :
    iprop(startR m K c ∗ (endR m c -∗ Q ⟨⟩)) ⊢ runs c (cc0_body (Memref.whole main_arg0) (Memref.isWhole_whole _) (Memref.whole main_v1) (Memref.isWhole_whole _) (Memref.whole cc0_scratch0) (Memref.isWhole_whole _)
      cc0_scratch1 cc0_scratch2 cc0_scratch3) Q := by
  rw [cc0_body_eq_skeleton]; unfold cc0_body_skel startR
  rw [x_pieces m c, sep_transfers (recvR (F := F) c), sep_copies (copyR (F := F) c)]
  iintro ⟨⟨#Hctx, HO, HT, HB, HS, HR, HC, HX, HV, ⟨%g, HG⟩⟩, Hk⟩
  icases HX with ⟨X0, ⟨P0, P1, P2, P3, P4, P5⟩, HX⟩
  icases HR with ⟨R0, R1, R2, R3, R4, R5, R6, R7, R8, R9, R10, R11, R12, R13, R14, R15, R16, R17⟩
  icases HC with ⟨C0, C1, C2, C3, C4, C5, C6⟩
  ihave HV := (out_raw (F := F) c) $$ HV
  icases HV with ⟨O0, O1, O2, O3, O4, O5, O6⟩
  ihave HG := (comm_lands (F := F) c g) $$ HG
  rw [runs_bind]
  iapply (part1 (F := F) c _)
  iintro %v2 %v5 %v8 %v9 %v10 %v11 %v13 %v17 %v20 %v23 %v26
  dsimp only
  rw [runs_bind]
  iapply (BIClass.wand_intro (part2 m K c _ _ _ _ _ _ _ _)) $$ [$Hctx $HO $HT $HG $HB]
  iintro ⟨HO, V, HP⟩
  ihave HS := (all_ready (F := F) c) $$ [$HS $HP]
  icases HS with ⟨S0, S1, S2, S3, S4, S5, S6, S7, S8, S9, S10, S11, S12, S13, S14, S15, S16, S17⟩
  rw [runs_bind]
  iapply (BIClass.wand_intro (part3 m K c _ _ _ _)) $$ [$Hctx $HO $S0 $P0 $S1 $P1]
  iintro ⟨HO, D0, D1⟩
  rw [runs_bind]
  iapply (BIClass.wand_intro (part4 m K c _ _ _ _)) $$ [$Hctx $HO $S2 $P2 $S3 $P3 $S4 $P4]
  iintro ⟨HO, D2, D3, D4⟩
  rw [runs_bind]
  iapply (BIClass.wand_intro (part5 m K c _ _ _ _ _ _ _)) $$ [$Hctx $HO $S5 $P5 $C0 $X0 $O0 $R0 $S6]
  iintro %v161 ⟨HO, D5, C0, V0, P11, H0, D6⟩
  rw [runs_bind]
  iapply (BIClass.wand_intro (part6 m K c _ _ _ _ _ _ _ _ _)) $$ [$Hctx $HO $S11 $P11 $R1]
  rw [got_fork m c 1 7 12 (half_fork m c 1 7 12 (by decide) (by decide))]
  iintro ⟨HO, D11, V1, ⟨P7, P12⟩, H1⟩
  rw [runs_bind]
  iapply (BIClass.wand_intro (part7 m K c _ _ _ _ _ _ _ _)) $$ [$Hctx $HO $S7 $P7 $S12 $P12 $R2]
  rw [got_fork m c 2 8 13 (half_fork m c 2 8 13 (by decide) (by decide))]
  iintro ⟨HO, D7, D12, V2, ⟨P8, P13⟩, H2⟩
  rw [runs_bind]
  iapply (BIClass.wand_intro (part8 m K c _ _ _ _ _ _ _ _)) $$ [$Hctx $HO $S8 $P8 $S13 $P13 $R3]
  rw [got_fork m c 3 9 14 (half_fork m c 3 9 14 (by decide) (by decide))]
  iintro %a8 ⟨HO, D8, D13, V3, ⟨P9, P14⟩, H3⟩
  rw [runs_bind]
  iapply (BIClass.wand_intro (part9 m K c _ _ _ _ _ _ _ _ _ _)) $$ [$Hctx $HO $S9 $P9 $S14 $P14 $R4]
  rw [got_fork m c 4 10 15 (half_fork m c 4 10 15 (by decide) (by decide))]
  iintro %a9 ⟨HO, D9, D14, V4, ⟨P10, P15⟩, H4⟩
  rw [runs_bind]
  iapply (BIClass.wand_intro (part10 m K c _ _ _ _ _ _ _ _ _ _)) $$ [$Hctx $HO $S10 $P10 $S15 $P15 $C1 $O1 H0 H1 H2 H3 H4]
  · rw [← kept_own m c]; iframe H0 H1 H2 H3 H4
  iintro ⟨HO, D10, D15, C1⟩
  rw [runs_bind]
  iapply (BIClass.wand_intro (part11 m K c _ _ _ _ _ _ _)) $$ [$Hctx $HO $R6 $R7 $R8]
  rw [got_halves m c 6, got_halves m c 7, got_halves m c 8]
  iintro ⟨HO, ⟨V6, L6, H6⟩, ⟨V7, L7, H7⟩, ⟨V8, L8, H8⟩⟩
  ihave HL := (BIBase.Entails.of_eq (half_x m c)) $$ [$L6 $L7 $L8]
  icases HL with ⟨P16, BX⟩
  rw [runs_bind]
  iapply (BIClass.wand_intro (part12 m K c _ _ _ _ _ _ _)) $$ [$Hctx $HO $S16 $P16 $R13 $R14]
  rw [got_halves m c 13, got_halves m c 14]
  iintro %a12 ⟨HO, D16, ⟨V13, L13, H13⟩, ⟨V14, L14, H14⟩⟩
  ihave HL := (BIBase.Entails.of_eq (half_y m c)) $$ [$L13 $L14]
  icases HL with ⟨P17, BY⟩
  rw [runs_bind]
  iapply (BIClass.wand_intro (part13 m K c _ _ _ _ _ _ _ _)) $$ [$Hctx $HO $S17 $P17 $R9 $R10 $H6 $H7 $H8 $C2 $O2]
  iintro ⟨HO, D17, ⟨V9, L9⟩, ⟨V10, L10⟩, C2⟩
  rw [runs_bind]
  iapply (BIClass.wand_intro (part14 m K c _ _ _ _ _ _)) $$ [$Hctx $HO $R11 $R12 $R15]
  rw [got_halves m c 11, got_halves m c 12, got_halves m c 15]
  iintro ⟨HO, ⟨V11, L11, H11⟩, ⟨V12, L12, H12⟩, ⟨V15, L15, H15⟩⟩
  rw [runs_bind]
  iapply (BIClass.wand_intro (part15 m K c _ _ _ _ _ _ _ _)) $$ [$Hctx $HO $C3 $O3 $R5 $C4 $O4 H11 H12 H13 H14 H15]
  · rw [← kept_y m c]; iframe H11 H12 H13 H14 H15
  iintro ⟨HO, C3, V5, C4⟩
  rw [runs_bind]
  iapply (BIClass.wand_intro (part16 m K c _ _ _ _ _ _)) $$ [$Hctx $HO $R16 $C5 $O5 $R17 $C6 $O6 $D0]
  iintro ⟨HO, ⟨V16, C5⟩, ⟨V17, C6⟩, B0⟩
  rw [runs_bind]
  iapply (BIClass.wand_intro (part17 m K c _)) $$ [$Hctx $HO $D1 $D2 $D3 $D4 $D5 $D6]
  iintro ⟨HO, B1, B2, B3, B4, B5, B6⟩
  rw [runs_bind]
  iapply (BIClass.wand_intro (part18 m K c _)) $$ [$Hctx $HO $D7 $D8 $D9 $D10 $D11 $D12]
  iintro ⟨HO, B7, B8, B9, B10, B11, B12⟩
  rw [runs_bind]
  iapply (BIClass.wand_intro (part19 m K c _)) $$ [$Hctx $HO $D13 $D14 $D15 $D17 $D16 $C0 $C1]
  iintro ⟨HO, B13, B14, B15, B17, B16, E0, E1⟩
  simp only [Prog.lift, Prog.bind_op, Prog.bind_ret, Prog.pure_eq_ret]
  iapply (wait_copied m K 2 512 rfl rfl) $$ [$Hctx $HO $C2]
  iintro ⟨HO, E2⟩
  iapply (wait_copied m K 3 512 rfl rfl) $$ [$Hctx $HO $C3]
  iintro ⟨HO, E3⟩
  iapply (wait_copied m K 4 272 rfl rfl) $$ [$Hctx $HO $C4]
  iintro ⟨HO, E4⟩
  iapply (wait_copied m K 5 120 rfl rfl) $$ [$Hctx $HO $C5]
  iintro ⟨HO, E5⟩
  iapply (wait_copied m K 6 120 rfl rfl) $$ [$Hctx $HO $C6]
  iintro ⟨HO, E6⟩
  iapply (runs_ret c); iapply Hk
  iapply (all_back m c)
  rw [sep_transfers (fun i => semVal (recvCell c i) 0), sep_transfers (leftR m c), sep_copies (copiedR m c)]
  iframe HO V HX V0 V1 V2 V3 V4 V5 V6 V7 V8 V9 V10 V11 V12 V13 V14 V15 V16 V17 B0 B1 B2 B3 B4 B5 B6 B7 B8 B9 B10 B11 B12 B13 B14 B15 B16 B17 E0 E1 E2 E3 E4 E5 E6 BX BY L9 L10 L11 L12 L15

end Whole

end Cert.GatherProof

end
-- ==== Proof.Launch.lean ====
/- The launch: the ghost state of all the devices, and the run of the whole program. -/
module

public import proofs.«01_k».proof.Proof.Whole
public import Idealize.ShloMosaic.Lib.Pipeline.CollectiveSegs

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state the launch starts from -/

/-- The kernel's scoped semaphores are the send, receive and copy semaphores. -/
theorem ownSemFacts : Pipeline.OwnSemFacts cfg0.spec osem := by decide

/-- Different cells of a device are different semaphores. -/
theorem csem_injective : Function.Injective csem := by decide

/-- Different cells of the mesh are different counters. -/
theorem kcell_injective : Function.Injective (kcell : Dev nD × KI → GSem nD τ sig) := by
  rintro ⟨c, k⟩ ⟨c', k'⟩ h
  have hc : c = c' := congrArg (fun g : GSem nD τ sig => g.1.1) h
  have hk : k = k' := csem_injective (congrArg Prod.snd h)
  rw [hc, hk]

/-- The cells of the protocol. -/
def allCells : Finset (GSem nD τ sig) := Finset.univ.map ⟨kcell, kcell_injective⟩

/-- The duties of a device's own cells: three at its barrier, one at each DMA cell. -/
abbrev Duty : Type := Fin 3 ⊕ KO
/-- A duty's cell and its name there. -/
abbrev dutyAt : Duty → KI × Fin 3
  | .inl d => (.inl (), d)
  | .inr k => (.inr k, 0)
/-- Different duties differ in cell or name. -/
theorem dutyAt_injective : Function.Injective dutyAt := by decide
/-- A duty of a device as the token minted for it, in round 0. -/
abbrev tokOf (x : Dev nD × Duty) : GSem nD τ sig × ℕ × Fin 3 := (kcell (x.1, (dutyAt x.2).1), 0, (dutyAt x.2).2)
/-- Different duties have different tokens. -/
theorem tokOf_injective : Function.Injective (tokOf : Dev nD × Duty → GSem nD τ sig × ℕ × Fin 3) := by
  rintro ⟨c, x⟩ ⟨c', x'⟩ h
  have hk := kcell_injective (congrArg Prod.fst h)
  have hd : (dutyAt x).2 = (dutyAt x').2 := congrArg (fun y : GSem nD τ sig × ℕ × Fin 3 => y.2.2) h
  exact Prod.ext (show c = c' from congrArg Prod.fst hk) (dutyAt_injective (Prod.ext (congrArg Prod.snd hk) hd))
/-- The tokens of the protocol. -/
def allToks : Finset (GSem nD τ sig × ℕ × Fin 3) := Finset.univ.map ⟨tokOf, tokOf_injective⟩

/-- The ghost state minted at the launch: the pipeline's (of no window) and the protocol's. -/
def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun x : Duty => dutyTok ER (kcell (c, (dutyAt x).1)) 0 (dutyAt x).2

/-- Device `c`'s position at its own cells. -/
def places (c : Dev nD) : sProp 𝕄 := bigSep Finset.univ fun k : KI => atPos ER (kcell (c, k)) 0 ∅ 0

/-- What the launch deals device `c`. -/
def G (c : Dev nD) : sProp 𝕄 :=
  iprop((bigSep Finset.univ fun k : KI => roundState ER (sched m) (kcell (c, k)) 0)
    ∗ (bigSep Finset.univ fun k : KI => reached ER (kcell (c, k)) 0) ∗ places (F := F) c ∗ toks (F := F) c)

omit [FloatOps F] in
/-- The protocol's ghost state, dealt to the devices. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  unfold G places
  rw [bigSep_sep', bigSep_sep', bigSep_sep', ← hT, ← hX (fun g => roundState ER (sched m) g 0), ← hX (fun g => reached ER g 0), ← hX (fun g => atPos ER g 0 ∅ 0)]
  iframe Hst Hr Hat Htok

/-! ## Opening the cells and dealing the tokens -/

omit [FloatOps F] in
/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own counters and the barrier's are the counters of the protocol's cells. -/
theorem counters (c : Dev nD) : (bigSep Finset.univ fun k : KI => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, BI.bigSep_univ_sum, bigSep_univ_eq_bigSepL [()] (by decide) (by decide), bigSepL_singleton]
  rfl

omit [FloatOps F] in
/-- A device's cells, each with its counter, become invariants. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (sched m) κ (kcell (c, k))))
          ∗ (bigSep Finset.univ fun k : KI => reached ER (kcell (c, k)) 0) ∗ places (F := F) c ∗ toks (F := F) c) := by
  have h : iprop((bigSep Finset.univ fun k : KI => semVal (kcell (c, k)) 0) ∗ bigSep Finset.univ fun k : KI => roundState ER (sched m) (kcell (c, k)) 0)
      ⊢ (|={Set.univ}=> bigSep Finset.univ fun k : KI => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [counters] at h
  unfold G
  iintro ⟨Hos, Hus, Hst, Hr, Hat, Htok⟩
  imod h $$ [$Hos $Hus $Hst] with Hinv
  imodintro
  iframe Hinv Hr Hat Htok

/-- The tokens of the duties device `c` pays: at its neighbours' barriers, at its own cells, at its transfers' receivers. -/
def payToks (c : Dev nD) : sProp 𝕄 :=
  iprop((bigSep Finset.univ fun d : Fin 3 => dutyTok ER (barCell (nb d c)) 0 d) ∗ (bigSep Finset.univ fun i : Fin 18 => dutyTok ER (sendCell c i) 0 (0 : Fin 3))
    ∗ (bigSep Finset.univ fun i : Fin 18 => dutyTok ER (recvCell (peer c i) i) 0 (0 : Fin 3))
    ∗ bigSep Finset.univ fun j : Fin 7 => dutyTok ER (copyCell c j) 0 (0 : Fin 3))

omit [FloatOps F] in
/-- A family over the devices can be dealt again, each member along its own direction. -/
theorem redeal {I : Type} [Fintype I] (e : I → Fin 3) (Φ : Dev nD → I → sProp 𝕄) :
    (bigSep Finset.univ fun c => bigSep Finset.univ fun i => Φ c i) = bigSep Finset.univ fun c => bigSep Finset.univ fun i => Φ (nb (e i) c) i := by
  rw [Pipeline.bigSep_univ_comm, Pipeline.bigSep_univ_comm (fun c i => Φ (nb (e i) c) i)]
  exact bigSep_congr fun i _ => bigSep_univ_equiv (nbE (e i)) (fun c => Φ c i)

omit [FloatOps F] in
/-- The tokens of the devices' own cells, all together, are the tokens of the duties the devices pay. -/
theorem deal : (bigSep Finset.univ fun c : Dev nD => (toks c : sProp 𝕄)) = bigSep Finset.univ fun c : Dev nD => payToks c := by
  have hown (c : Dev nD) : (toks c : sProp 𝕄) = iprop((bigSep Finset.univ fun d : Fin 3 => dutyTok ER (barCell c) 0 d)
      ∗ (bigSep Finset.univ fun i : Fin 18 => dutyTok ER (sendCell c i) 0 (0 : Fin 3))
      ∗ (bigSep Finset.univ fun i : Fin 18 => dutyTok ER (recvCell c i) 0 (0 : Fin 3))
      ∗ bigSep Finset.univ fun j : Fin 7 => dutyTok ER (copyCell c j) 0 (0 : Fin 3)) := by
    unfold toks; rw [BI.bigSep_univ_sum, BI.bigSep_univ_sum, BI.bigSep_univ_sum]; rfl
  rw [show (toks : Dev nD → sProp 𝕄) = _ from funext hown, bigSep_sep', bigSep_sep', bigSep_sep', redeal (fun d : Fin 3 => d) (fun c d => dutyTok ER (barCell c) 0 d),
    redeal dir (fun c i => dutyTok ER (recvCell c i) 0 (0 : Fin 3))]
  unfold payToks
  rw [bigSep_sep', bigSep_sep', bigSep_sep']
  rfl

/-- What the launch hands device `c` once every cell is open. -/
def G' (c : Dev nD) : sProp 𝕄 := iprop(∃ K, records m K ∗ places (F := F) c ∗ payToks (F := F) c)

omit [FloatOps F] in
/-- Every cell of the mesh opened at once, under one map of names, and the tokens dealt to those who pay. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h := (bigSep_mono fun (c : Dev nD) (_ : c ∈ Finset.univ) => open_cells m c).trans (bigSep_fupd _ _)
  have e : (bigSep Finset.univ fun c : Dev nD => (iprop((bigSep Finset.univ fun k : KI => iprop(∃ κ : ℕ, cellInv ER (sched m) κ (kcell (c, k))))
          ∗ (bigSep Finset.univ fun k : KI => reached ER (kcell (c, k)) 0) ∗ places (F := F) c ∗ toks (F := F) c) : sProp 𝕄))
      = iprop((bigSep Finset.univ fun ck : Dev nD × KI => iprop(∃ κ : ℕ, cellInv ER (sched m) κ (kcell ck)))
          ∗ (bigSep Finset.univ fun ck : Dev nD × KI => reached ER (kcell ck) 0) ∗ (bigSep Finset.univ fun c : Dev nD => places (F := F) c)
          ∗ bigSep Finset.univ fun c : Dev nD => payToks (F := F) c) := by
    rw [bigSep_sep', bigSep_sep', bigSep_sep', deal, bigSep_univ_prod, bigSep_univ_prod]
  iintro H
  imod (show (_ : sProp 𝕄) ⊢ |={Set.univ}=> _ from h.trans (Entails.of_eq (congrArg (fun P : sProp 𝕄 => iprop(|={Set.univ}=> P)) e))) $$ H with ⟨HI, HR, Hat, Htok⟩
  imodintro
  ihave HK := (BI.bigSep_exists_pi Finset.univ (fun (ck : Dev nD × KI) (κ : ℕ) => (cellInv ER (sched m) κ (kcell ck) : sProp 𝕄))) $$ HI
  icases HK with ⟨%K, HI⟩
  ihave HP := (show iprop((bigSep Finset.univ fun ck => cellInv ER (sched m) (K ck) (kcell ck)) ∗ bigSep Finset.univ fun ck => reached ER (kcell ck) 0)
      ⊢ (bigSep Finset.univ fun _ : Dev nD => records m K : sProp 𝕄) from by
    rw [← bigSep_sep']; exact BI.bigSep_of_persistent Finset.univ (records m K)) $$ [$HI $HR]
  iapply (show iprop((bigSep Finset.univ fun _ : Dev nD => records m K) ∗ (bigSep Finset.univ fun c : Dev nD => places (F := F) c)
      ∗ bigSep Finset.univ fun c : Dev nD => payToks (F := F) c) ⊢ bigSep Finset.univ (G' m) from by
    rw [← bigSep_sep', ← bigSep_sep']
    exact bigSep_mono fun c _ => show iprop(records m K ∗ places (F := F) c ∗ payToks (F := F) c) ⊢ G' m c from by unfold G'; iintro H; iexists K; iexact H)
  iframe HP Hat Htok

/-! ## The launch credit -/

omit [FloatOps F] in
/-- What the devices owe one another's receive cells is credit at those. -/
theorem credit_recv (c : Dev nD) : ∀ l : List (Fin 18),
    (Pipeline.launchCred (fun d => owedL d l) c : sProp 𝕄) ⊢ bigSepL l fun i => cred (tallyAt (recvCell c i) () (rowCredit (len i)))
  | [] => Entails.of_eq (Pipeline.launchCred_zero c)
  | i :: l => by
    rw [show (fun d => owedL d (i :: l)) = fun d => owedL d l + tallyAt (recvCell (peer d i) i) () (rowCredit (len i)) from rfl, Pipeline.launchCred_add]
    refine (BIClass.sep_mono (credit_recv c l) (Pipeline.launchCred_tallyAt (.dma (recvS i)) (fun d => peer d i) (fun d => peer d i)
      (fun d => peer_peer d i) (fun d => peer_peer d i) () (rowCredit (len i)) c)).trans ?_
    rw [bigSepL_cons]
    exact (show ∀ A B : sProp 𝕄, iprop(A ∗ B) ⊢ iprop(B ∗ A) from fun A B => by
      iintro ⟨A, B⟩
      isplitl [B]
      · iexact B
      iexact A) _ _

omit [FloatOps F] in
/-- A neighbour's unit. -/
theorem credit_bar (d : Fin 3) (c : Dev nD) : (Pipeline.launchCred (fun e => tallyAt (barCell (nb d e)) () 1) c : sProp 𝕄) ⊢ cred (tallyAt (barCell c) () 1) :=
  Pipeline.launchCred_tallyAt (.reg barS) (nb d) (nb d) (nb_nb d) (nb_nb d) () 1 c

omit [FloatOps F] in
/-- What the other devices owe device `c` is credit for its barrier's three units and for its eighteen receptions. -/
theorem credits (c : Dev nD) : (Pipeline.launchCred O₀ c : sProp 𝕄)
    ⊢ iprop(cred (tallyAt (barCell c) () 3) ∗ bigSep Finset.univ fun i : Fin 18 => cred (tallyAt (recvCell c i) () (rowCredit (len i)))) := by
  have h0 : (Pipeline.launchCred O₀ c : sProp 𝕄) = _ := Pipeline.launchCred_add O₂ (fun e => tallyAt (barCell (nb 0 e)) () 1) c
  have h1 : (Pipeline.launchCred O₂ c : sProp 𝕄) = _ := Pipeline.launchCred_add O₁ (fun e => tallyAt (barCell (nb 1 e)) () 1) c
  have h2 : (Pipeline.launchCred O₁ c : sProp 𝕄) = _ := Pipeline.launchCred_add (fun e => owedL e sendOrder) (fun e => tallyAt (barCell (nb 2 e)) () 1) c
  have h3 : (cred (tallyAt (barCell c) () 3) : sProp 𝕄) = iprop((cred (tallyAt (barCell c) () 1) ∗ cred (tallyAt (barCell c) () 1)) ∗ cred (tallyAt (barCell c) () 1)) := by
    rw [← BI.Entails.antisymm (cred_add (tallyAt (barCell c) () 1) (tallyAt (barCell c) () 1)).1 (cred_add _ _).2]
    rw [← BI.Entails.antisymm (cred_add _ _).1 (cred_add _ _).2]
    exact congrArg _ (by rw [tallyAt_add, tallyAt_add])
  rw [h0, h1, h2, h3, bigSep_univ_eq_bigSepL sendOrder (by decide) (by decide)]
  iintro ⟨⟨⟨HR, H2⟩, H1⟩, H0⟩
  ihave HR := (credit_recv (F := F) c sendOrder) $$ HR
  ihave H2 := (credit_bar (F := F) 2 c) $$ H2
  ihave H1 := (credit_bar (F := F) 1 c) $$ H1
  ihave H0 := (credit_bar (F := F) 0 c) $$ H0
  iframe HR H2 H1 H0

/-! ## The library's launch theorem -/

/-- What a device holds when its kernel starts, but for what it owes and its receive buffer. -/
def start (c : Dev nD) : sProp 𝕄 :=
  iprop(G' m c ∗ levAts L lv ∗ (cred (tallyAt (barCell c) () 3) ∗ bigSep Finset.univ fun i : Fin 18 => cred (tallyAt (recvCell c i) () (rowCredit (len i))))
    ∗ ((c : Thread nD τ).loc main_arg0 ↦{fullShare} xOf m c) ∗ (∃ f, (c : Thread nD τ).loc main_v1 ↦{fullShare} f))
/-- What a device holds when its kernel starts, with its receive buffer. -/
def Φ₀ (c : Dev nD) : sProp 𝕄 := iprop(start m c ∗ (∃ f, (c : Thread nD τ).loc cc0_scratch0 ↦{fullShare} f))
/-- What it holds at the end that outlives the kernel. -/
def final (c : Dev nD) : sProp 𝕄 :=
  iprop(unscopedSems0 c ∗ ((c : Thread nD τ).loc main_arg0 ↦{fullShare} xOf m c) ∗ ((c : Thread nD τ).loc main_v1 ↦{fullShare} outF m c))
/-- What it holds at the end: that, its own counters at zero, and its receive buffer. -/
def Φ₁ (c : Dev nD) : sProp 𝕄 :=
  iprop(final m c ∗ Pipeline.ownSems0 (Ix := Unit) (Name := ℕ) (U := UU) (Lvl := ℕ) (Val := Elt F) (τ := τ) osem c
    ∗ (∃ f, (c : Thread nD τ).loc cc0_scratch0 ↦{fullShare} f))

/-- The region as the launch theorem sees it: one point, no window, the debts before and none after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- The launch's resources are what one device's run starts with. -/
theorem start_run (c : Dev nD) : iprop(Φ₀ m c ∗ owesE (F := F) c (O₀ c)) ⊢ iprop(∃ K, startR m K c) := by
  unfold Φ₀ start G' places payToks startR ctx barR
  have hs : bigSep Finset.univ (sendR (F := F) c) = _ := bigSep_sep' Finset.univ (fun i => dutyTok ER (sendCell c i) 0 (0 : Fin 3)) (fun i => iprop(dutyTok ER (recvCell (peer c i) i) 0 (0 : Fin 3) ∗ atPos ER (sendCell c i) 0 ∅ 0))
  have hr : bigSep Finset.univ (recvR (F := F) c) = _ := bigSep_sep' Finset.univ (fun i => atPos ER (recvCell c i) 0 ∅ 0) (fun i => cred (tallyAt (recvCell c i) () (rowCredit (len i))))
  have hc : bigSep Finset.univ (copyR (F := F) c) = _ := bigSep_sep' Finset.univ (fun j => dutyTok ER (copyCell c j) 0 (0 : Fin 3)) (fun j => atPos ER (copyCell c j) 0 ∅ 0)
  have hp : (bigSep Finset.univ fun k : KI => (atPos ER (kcell (c, k)) 0 ∅ 0 : sProp 𝕄)) = iprop(atPos ER (barCell c) 0 ∅ 0 ∗ (bigSep Finset.univ fun i : Fin 18 => atPos ER (sendCell c i) 0 ∅ 0)
      ∗ (bigSep Finset.univ fun i : Fin 18 => atPos ER (recvCell c i) 0 ∅ 0) ∗ bigSep Finset.univ fun j : Fin 7 => atPos ER (copyCell c j) 0 ∅ 0) := by
    rw [BI.bigSep_univ_sum, BI.bigSep_univ_sum, BI.bigSep_univ_sum, bigSep_univ_eq_bigSepL [()] (by decide) (by decide), bigSepL_singleton]
    rfl
  have hb (Φ : Fin 3 → sProp 𝕄) : bigSep Finset.univ Φ = iprop(Φ 0 ∗ Φ 1 ∗ Φ 2) := bigSep_univ_eq_bigSepL [0, 1, 2] (by decide) (by decide) Φ
  rw [hs, hr, hc, hp, bigSep_sep', hb]
  iintro ⟨⟨⟨⟨%K, HK, ⟨AB, AS, AR, AC⟩, ⟨T0, T1, T2⟩, TS, TR, TC⟩, HL, ⟨CB, CR⟩, HX, HV⟩, HG⟩, HO⟩
  iexists K
  iframe HK HL HO T0 T1 T2 AB CB TS TR AS AR CR TC AC HX HV HG

omit [FloatOps F] in
/-- What one device's run ends with is what the launch wants back. -/
theorem end_run (c : Dev nD) : endR m c ⊢ iprop(Φ₁ m c ∗ owesE (F := F) c 0) := by
  have hs : (Pipeline.ownSems0 (Ix := Unit) (Name := ℕ) (U := UU) (Lvl := ℕ) (Val := Elt F) (τ := τ) osem c : sProp 𝕄)
      = iprop((bigSep Finset.univ fun i => semVal (sendCell c i) 0) ∗ (bigSep Finset.univ fun i => semVal (recvCell c i) 0) ∗ bigSep Finset.univ fun j => semVal (copyCell c j) 0) := by
    unfold Pipeline.ownSems0; rw [BI.bigSep_univ_sum, BI.bigSep_univ_sum]; rfl
  unfold endR quietR Φ₁ final
  rw [unscopedSems0_eq, hs]
  iintro ⟨HO, ⟨VB, VS, VR, VC⟩, HX, HV, HG⟩
  iframe HO VB VS VR VC HX HV
  iexists (fin m c); iexact HG

set_option maxRecDepth 100000 in
/-- The kernel's body, as the launch theorem asks for it. -/
theorem body_obligation (c : Dev nD) : BodyObligation (dats m 0 c) (defs₀ (F := F)) 𝒱₀ () Set.univ := fun t => by
  rw [fin_N0 t]
  have hW (Φ : Fin cfg0.W → sProp 𝕄) : bigSep Finset.univ Φ = iprop(emp) := by
    rw [Finset.univ_eq_empty, bigSep_empty]; rfl
  rw [hW, hW]
  show iprop(Φ₀ m c ∗ (dats m 0 c).owesAt () t0_0.castSucc ∗ emp) ⊢ runs c (cc0_body (Memref.whole main_arg0) (Memref.isWhole_whole _)
    (Memref.whole main_v1) (Memref.isWhole_whole _) (Memref.whole cc0_scratch0) (Memref.isWhole_whole _) cc0_scratch1 cc0_scratch2 cc0_scratch3)
    (fun _ => iprop(Φ₁ m c ∗ (dats m 0 c).owesAt () t0_0.succ ∗ emp))
  unfold Dat.owesAt Pipeline.owesWithin
  rw [show (dats m 0 c).owed t0_0.castSucc = O₀ c from rfl, show (dats m 0 c).owed t0_0.succ = 0 from rfl]
  iintro ⟨HΦ, ⟨%W, -, HO⟩, -⟩
  ihave HS := (start_run m c) $$ [HΦ HO]
  · unfold owesE
    isplitl [HΦ]
    · iexact HΦ
    iexists W; iexact HO
  icases HS with ⟨%K, HS⟩
  iapply (body_run m K c _)
  isplitl [HS]
  · iexact HS
  iintro HE
  ihave HE := (end_run m c) $$ HE
  unfold owesE
  icases HE with ⟨HΦ, ⟨%W', HO⟩⟩
  isplitl [HΦ]
  · iexact HΦ
  isplitl
  · iexists W'
    isplitr
    · ipureintro; exact fun _ _ => Or.inl trivial
    iexact HO
  iempintro

omit [FloatOps F] in
/-- What the launch hands device `c` is what `start` names; nothing is put aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have e : (Pipeline.unscopedRestP Pipeline.Prefetch.none cfg0.spec c (fun b => m ((c : Thread nD τ).loc b)) : sProp 𝕄)
      = iprop(((c : Thread nD τ).loc main_arg0 ↦{fullShare} xOf m c) ∗ ((c : Thread nD τ).loc main_v1 ↦{fullShare} m ((c : Thread nD τ).loc main_v1))) :=
    (Pipeline.unscopedRestP_none _ _ _).trans (unscopedRest0_eq c _)
  rw [e]
  unfold start
  iintro ⟨⟨HX, HV⟩, HL, HC, -, HG⟩
  ihave HC := (credits (F := F) c) $$ HC
  imodintro
  isplitl
  · isplitl [HG]
    · iexact HG
    isplitl [HL]
    · iexact HL
    isplitl [HC]
    · iexact HC
    isplitl [HX]
    · iexact HX
    iexists (m ((c : Thread nD τ).loc main_v1)); iexact HV
  iempintro

/-- The kernel's start holds what the region's first point asks for. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨HS, -, HG⟩
  isplitl [HS]
  · iexact HS
  iexact HG

/-- The region's end holds what the launch wants back. -/
theorem last_exit (c : Dev nD) : (dats m 0 c).Φ (Fin.last cfg0.N) ⊢ iprop(final m c
    ∗ Pipeline.ownSems0 (Ix := Unit) (Name := ℕ) (U := UU) (Lvl := ℕ) (Val := Elt F) (τ := τ) osem c ∗ Pipeline.scopedRest cfg0.spec c) := by
  rw [scopedRest0_eq]
  exact Entails.rfl

/-- What a device leaves in memory: its block, its result, and counters of the runtime at zero. -/
def Left (c : Dev nD) (s : MemSt nD τ sig (Elt F)) : Prop :=
  (s.mem ((c : Thread nD τ).loc main_arg0) = xOf m c ∧ s.mem ((c : Thread nD τ).loc main_v1) = outF m c)
    ∧ ∀ sm : SemLoc sig, sm.isScoped .tc = false → s.sem ((c.tc : Thread nD τ), sm) = 0

omit [FloatOps F] in
/-- A buffer held whole is what memory holds. -/
theorem pts_read (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨Hf, HSI⟩
  icombine HSI Hf gives %h
  isplitr
  · ipureintro; exact Buf.eq_of_forall_mem_univ h
  iexact HSI

omit [FloatOps F] in
/-- What a device holds at the end is what memory shows. -/
theorem final_read (c : Dev nD) (s' : Phys nD τ sig (Elt F)) :
    (iprop(final m c ∗ emp ∗ SI s') : sProp 𝕄) ⊢ |={Set.univ}=> iprop(⌜Left m c s'.mem⌝ ∗ SI s') := by
  unfold final
  iintro ⟨⟨HB, HX, HV⟩, -, HSI⟩
  ihave ⟨%hx, HSI⟩ := (pts_read _ _ s') $$ [$HX $HSI]
  ihave ⟨%hv, HSI⟩ := (pts_read _ _ s') $$ [$HV $HSI]
  imod (Pipeline.unscopedSems0_read (X := unscopedSems0 c) (c := c) fupd_intro s') $$ [$HB $HSI] with ⟨%hs, HSI⟩
  imodintro
  isplitr
  · ipureintro
    exact ⟨⟨hx, hv⟩, hs⟩
  iexact HSI

set_option maxRecDepth 8000 in
/-- From any memory with zero counters, for any float values: every fair execution of the kernel on the eight devices ends,
    every device's result holds what `outF` states, its block is unchanged, and every counter is back at zero. -/
theorem run_main : θ_run defs (onTc (τ := τ) (main (F := F))) (⟨m, fun _ => 0, ρ⟩ : MemSt nD τ sig (Elt F)) (fun r =>
    (∀ c : Dev nD, r.2.mem ((c : Thread nD τ).loc main_arg0) = xOf m c ∧ r.2.mem ((c : Thread nD τ).loc main_v1) = outF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := first_intro m) (hout := last_exit m)
    (QY := Left m) (hY := final_read m)
    (hQ := fun _ h hs => ⟨fun c => (h c).2.2.1, sem_eq_zero hs fun c => (h c).2.2.2⟩)

end Cert.GatherProof

end
-- ==== Proof.Value.lean ====
/- The values: every device gathers the whole argument, and the reference returns it. -/
module

public import proofs.«01_k».proof.Proof.Launch
public import proofs.«01_k».proof.Defs
public import proofs.«01_k».proof.Proof.Gen.ReferenceIdeal
public import Idealize.ShloMosaic.Lib.StableHlo.Run
public import Idealize.ShloMosaic.Lib.Layout

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Every device's result is the whole array -/

/-- The two blocks the argument is cut into, one per `z`. -/
abbrev cut (c : Dev nD) (X : S4096x512.Idx → Elt F .f32) : S2048x512.Idx → Elt F .f32 :=
  Layout.blockN ⟨2, ![2048, 512]⟩ ⟨2, ![4096, 512]⟩ (Layout.meshBlock [2, 2, 2] ![[2], []] c) X

/-- The row of an index of the result. -/
theorem rowOf_eq (i : S4096x512.Idx) : rowOf i = (i (0 : Fin 2)).val := rfl
/-- Its row in its half. -/
theorem rowOf_down (i : S4096x512.Idx) : rowOf (down i) = (i (0 : Fin 2)).val % 2048 := rfl

omit [FloatOps F] in
/-- A device whose `z` is the half of row `i` holds that row of the array. -/
theorem cut_down (c : Dev nD) (X : S4096x512.Idx → Elt F .f32) (i : S4096x512.Idx) (h : (i (0 : Fin 2)).val / 2048 = c.val % 2) :
    cut c X (down i) = X i := by
  have h1 : (i (1 : Fin 2)).val < 512 := (i (1 : Fin 2)).isLt
  have hz : ((Layout.meshBlock [2, 2, 2] ![[2], []] c) (0 : Fin 2)).val = c.val % 2 := by clear * -; revert c; decide
  refine congrArg X (funext fun a => Fin.ext ?_)
  revert a; rw [Fin.forall_fin_two]
  constructor
  · rw [Layout.TilesN.idx_val]
    show ((Layout.meshBlock [2, 2, 2] ![[2], []] c) (0 : Fin 2)).val * 2048 + (i (0 : Fin 2)).val % 2048 = _
    rw [hz]; omega
  · rw [Layout.TilesN.idx_val]
    show 0 * 512 + (i (1 : Fin 2)).val % 2048 = _
    omega

/-- The rows a device receives come from a device of the other `z`. -/
theorem src_z (c : Dev nD) (r : ℕ) : (src c r).val % 2 = 1 - c.val % 2 := by
  unfold src; split
  · clear * -; revert c; decide
  · show (2 * (r / 512) + (1 - c.val % 2)) % 8 % 2 = _
    omega

omit [FloatOps F] in
/-- If each device's argument is its block of `X`, each device's result is `X`. -/
theorem outF_eq (m : (ℓ : Loc nD τ sig) → Buf (Elt F) ℓ) (X : S4096x512.Idx → Elt F .f32) (h : ∀ c, xOf m c = cut c X) (c : Dev nD) : outF m c = X := by
  funext i
  have h0 : (i (0 : Fin 2)).val < 4096 := (i (0 : Fin 2)).isLt
  unfold outF fin
  split
  · next hz => rw [h, cut_down c X i (by rw [← rowOf_eq, hz])]
  · next hz =>
    rw [rowOf_eq] at hz
    rw [h, cut_down _ X i]
    rw [src_z]; omega

/-! ## The reference's run -/

/-- The reference has no operation: its run leaves memory as it was, and it has no counter. -/
theorem run_reference (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run (Cert.ReferenceIdeal.defs (F := F)) _ _).mono
    (fun _ h => ⟨fun c => h c Cert.ReferenceIdeal.main_arg0, sem_eq_zero_of_no_sems (by decide) _⟩)
    (StableHlo.run_seq (by decide) (by decide) (Cert.ReferenceIdeal.defs (F := F)) (Cert.ReferenceIdeal.main (F := F)) (fun _ => []) (fun _ => rfl) (fun _ => trivial) m ρ)

end Cert.GatherProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, at its own words: its text is the idealized one's, so the run over any float values is its run. -/
theorem frame_kernel : Cert.quiescent_Kernel := fun m ρ _ =>
  (θ_run Cert.KernelIdeal.defs _ _).mono (fun _ h => ⟨fun c => (h.1 c).1, h.2⟩) (Cert.GatherProof.run_main (F := Bits) m ρ)

/-- The idealized kernel runs. -/
theorem frame_ideal : Cert.quiescent_KernelIdeal := fun m ρ _ =>
  (θ_run Cert.KernelIdeal.defs _ _).mono (fun _ h => ⟨fun c => (h.1 c).1, h.2⟩) (Cert.GatherProof.run_main (F := Ideal) m ρ)

/-- The reference runs. -/
theorem frame_reference : Cert.quiescent_ReferenceIdeal := fun m ρ _ => Cert.GatherProof.run_reference (F := Ideal) m ρ

/-- Every device's result is the whole argument, which is what the reference returns. -/
theorem algebraic : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ hr c => ⟨(hr.1 c).2.trans (Cert.GatherProof.outF_eq m _ h c), (hr.1 c).1⟩)
      (Cert.GatherProof.run_main (F := Ideal) m ρ),
    (θ_run Cert.ReferenceIdeal.defs _ _).mono (fun _ hr => ⟨hr.1 0, hr.1 0⟩) (Cert.GatherProof.run_reference (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
